-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S1x1024x1024 : Shape := ⟨3, ![1, 1024, 1024]⟩
abbrev S1023x1024 : Shape := ⟨2, ![1023, 1024]⟩
abbrev S1024x1 : Shape := ⟨2, ![1024, 1]⟩
abbrev S1 : Shape := ⟨1, ![1]⟩
abbrev S1x1 : Shape := ⟨2, ![1, 1]⟩
abbrev S1023x1 : Shape := ⟨2, ![1023, 1]⟩
abbrev S128x128 : Shape := ⟨2, ![128, 128]⟩
abbrev S128x1 : Shape := ⟨2, ![128, 1]⟩
abbrev S1x128 : Shape := ⟨2, ![1, 128]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S1x1024, .f32⟩
  | .hbm, ⟨7, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x3072, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S8x2047x1024 : Shape := ⟨3, ![8, 2047, 1024]⟩
abbrev S_ : Shape := ⟨0, ![]⟩
abbrev S8x2047 : Shape := ⟨2, ![8, 2047]⟩
abbrev S8x2048 : Shape := ⟨2, ![8, 2048]⟩
abbrev S8x1024 : Shape := ⟨2, ![8, 1024]⟩
abbrev S2048x8x1024 : Shape := ⟨3, ![2048, 8, 1024]⟩
abbrev S2048x8 : Shape := ⟨2, ![2048, 8]⟩
abbrev S1x8x1024 : Shape := ⟨3, ![1, 8, 1024]⟩
abbrev S1x8 : Shape := ⟨2, ![1, 8]⟩
abbrev S8 : Shape := ⟨1, ![8]⟩
abbrev S8x1 : Shape := ⟨2, ![8, 1]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S8x2047x1024, .f32⟩
  | .hbm, ⟨6, _⟩ => ⟨S8x2047x1024, .f32⟩
  | .hbm, ⟨7, _⟩ => ⟨S8x2047x1024, .f32⟩
  | .hbm, ⟨8, _⟩ => ⟨S8x2047x1024, .f32⟩
  | .hbm, ⟨9, _⟩ => ⟨S8x2047x1024, .f32⟩
  | .hbm, ⟨10, _⟩ => ⟨S_, .f32⟩
  | .hbm, ⟨11, _⟩ => ⟨S8x2047, .f32⟩
  | .hbm, ⟨12, _⟩ => ⟨S8x2047, .f32⟩
  | .hbm, ⟨13, _⟩ => ⟨S8x2047x1024, .f32⟩
  | .hbm, ⟨14, _⟩ => ⟨S_, .f32⟩
  | .hbm, ⟨15, _⟩ => ⟨S8x2047, .f32⟩
  | .hbm, ⟨16, _⟩ => ⟨S8x2047, .f32⟩
  | .hbm, ⟨17, _⟩ => ⟨S_, .f32⟩
  | .hbm, ⟨18, _⟩ => ⟨S8x2047, .f32⟩
  | .hbm, ⟨19, _⟩ => ⟨S8x2047, .f32⟩
  | .hbm, ⟨20, _⟩ => ⟨S_, .f32⟩
  | .hbm, ⟨21, _⟩ => ⟨S8x2047, .f32⟩
  | .hbm, ⟨22, _⟩ => ⟨S8x2047, .f32⟩
  | .hbm, ⟨23, _⟩ => ⟨S8x2047, .f32⟩
  | .hbm, ⟨24, _⟩ => ⟨S8x2047x1024, .f32⟩
  | .hbm, ⟨25, _⟩ => ⟨S_, .f32⟩
  | .hbm, ⟨26, _⟩ => ⟨S8x2047, .f32⟩
  | .hbm, ⟨27, _⟩ => ⟨S8x2047, .f32⟩
  | .hbm, ⟨28, _⟩ => ⟨S_, .f32⟩
  | .hbm, ⟨29, _⟩ => ⟨S8x2047, .f32⟩
  | .hbm, ⟨30, _⟩ => ⟨S8x2047, .f32⟩
  | .hbm, ⟨31, _⟩ => ⟨S_, .f32⟩
  | .hbm, ⟨32, _⟩ => ⟨S8x2047, .f32⟩
  | .hbm, ⟨33, _⟩ => ⟨S8x2047, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x2047, .f32⟩
  | .hbm, ⟨38, _⟩ => ⟨S8x2047, .f32⟩
  | .hbm, ⟨39, _⟩ => ⟨S_, .f32⟩
  | .hbm, ⟨40, _⟩ => ⟨S8x2047, .f32⟩
  | .hbm, ⟨41, _⟩ => ⟨S8x2047, .f32⟩
  | .hbm, ⟨42, _⟩ => ⟨S_, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S_, .f32⟩
  | .hbm, ⟨58, _⟩ => ⟨S8x2048, .f32⟩
  | .hbm, ⟨59, _⟩ => ⟨S8x2048, .f32⟩
  | .hbm, ⟨60, _⟩ => ⟨S_, .f32⟩
  | .hbm, ⟨61, _⟩ => ⟨S8x1024, .f32⟩
  | .hbm, ⟨62, _⟩ => ⟨S2048x8x1024, .f32⟩
  | .hbm, ⟨63, _⟩ => ⟨S2048x8, .f32⟩
  | .hbm, ⟨64, _⟩ => ⟨S_, .f32⟩
  | .hbm, ⟨65, _⟩ => ⟨S2048x8x1024, .f32⟩
  | .hbm, ⟨66, _⟩ => ⟨S_, .i32⟩
  | .hbm, ⟨67, _⟩ => ⟨S2048x8x1024, .f32⟩
  | .hbm, ⟨68, _⟩ => ⟨S2048x8, .f32⟩
  | .hbm, ⟨69, _⟩ => ⟨S_, .i32⟩
  | .hbm, ⟨70, _⟩ => ⟨S8x1024, .f32⟩
  | .hbm, ⟨71, _⟩ => ⟨S2048x8x1024, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S1x8x1024, .f32⟩
  | .hbm, ⟨77, _⟩ => ⟨S8x1024, .f32⟩
  | .hbm, ⟨78, _⟩ => ⟨S_, .i32⟩
  | .hbm, ⟨79, _⟩ => ⟨S1x8, .f32⟩
  | .hbm, ⟨80, _⟩ => ⟨S8, .f32⟩
  | .hbm, ⟨81, _⟩ => ⟨S8x1, .f32⟩
  | .hbm, ⟨82, _⟩ => ⟨S8x1024, .f32⟩
  | .hbm, ⟨83, _⟩ => ⟨S8x1024, .f32⟩
  | .hbm, ⟨84, _⟩ => ⟨S_, .f32⟩
  | .hbm, ⟨85, _⟩ => ⟨S8, .f32⟩
  | .hbm, ⟨86, _⟩ => ⟨S8, .f32⟩
  | .hbm, ⟨87, _⟩ => ⟨S8x1, .f32⟩
  | .hbm, ⟨88, _⟩ => ⟨S8x1024, .f32⟩
  | .hbm, ⟨89, _⟩ => ⟨S8x1024, .f32⟩
  | .hbm, ⟨90, _⟩ => ⟨S8x1024, .f32⟩
  | .hbm, ⟨91, _⟩ => ⟨S1x8x1024, .f32⟩
  | .hbm, ⟨92, _⟩ => ⟨S_, .i32⟩
  | .hbm, ⟨93, _⟩ => ⟨S_, .i32⟩
  | .hbm, ⟨94, _⟩ => ⟨S2048x8x1024, .f32⟩
  | .hbm, ⟨95, _⟩ => ⟨S_, .i32⟩
  | .hbm, ⟨96, _⟩ => ⟨S_, .i32⟩
  | .hbm, ⟨97, _⟩ => ⟨S8x2048x1024, .f32⟩
  | .hbm, ⟨98, _⟩ => ⟨S8x2048x1024, .f32⟩
  | .hbm, ⟨99, _⟩ => ⟨S1x1x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_8 : Ref sig .tc := ⟨.hbm, 42, rfl⟩
abbrev main_call1_v0 : Ref sig .tc := ⟨.hbm, 43, rfl⟩
abbrev main_v23 : Ref sig .tc := ⟨.hbm, 44, rfl⟩
abbrev main_cst_9 : Ref sig .tc := ⟨.hbm, 45, rfl⟩
abbrev main_v24 : Ref sig .tc := ⟨.hbm, 46, rfl⟩
abbrev main_v25 : Ref sig .tc := ⟨.hbm, 47, rfl⟩
abbrev main_cst_10 : Ref sig .tc := ⟨.hbm, 48, rfl⟩
abbrev main_cst_11 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v26 : Ref sig .tc := ⟨.hbm, 55, rfl⟩
abbrev main_cst_12 : Ref sig .tc := ⟨.hbm, 56, rfl⟩
abbrev main_call3_v0 : Ref sig .tc := ⟨.hbm, 57, rfl⟩
abbrev main_call3_v1 : Ref sig .tc := ⟨.hbm, 58, rfl⟩
abbrev main_v27 : Ref sig .tc := ⟨.hbm, 59, rfl⟩
abbrev main_cst_13 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_14 : Ref sig .tc := ⟨.hbm, 64, rfl⟩
abbrev main_v31 : Ref sig .tc := ⟨.hbm, 65, rfl⟩
abbrev main_c : Ref sig .tc := ⟨.hbm, 66, rfl⟩
abbrev main_v32_0 : Ref sig .tc := ⟨.hbm, 67, rfl⟩
abbrev main_v32_1 : Ref sig .tc := ⟨.hbm, 68, rfl⟩
abbrev main_v32_2 : Ref sig .tc := ⟨.hbm, 69, rfl⟩
abbrev main_v32_3 : Ref sig .tc := ⟨.hbm, 70, rfl⟩
abbrev main_v32_4 : Ref sig .tc := ⟨.hbm, 71, rfl⟩
abbrev main_while0c_c_19 : Ref sig .tc := ⟨.hbm, 72, rfl⟩
abbrev main_while0c_v39 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_v0 : Ref sig .tc := ⟨.hbm, 76, rfl⟩
abbrev main_while0b_v39 : Ref sig .tc := ⟨.hbm, 77, rfl⟩
abbrev main_while0b_call5_c : Ref sig .tc := ⟨.hbm, 78, rfl⟩
abbrev main_while0b_call5_v0 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_cst_19 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_call6_v0 : Ref sig .tc := ⟨.hbm, 91, rfl⟩
abbrev main_while0b_call6_c : Ref sig .tc := ⟨.hbm, 92, rfl⟩
abbrev main_while0b_call6_c_0 : Ref sig .tc := ⟨.hbm, 93, rfl⟩
abbrev main_while0b_v50 : Ref sig .tc := ⟨.hbm, 94, rfl⟩
abbrev main_while0b_c_20 : Ref sig .tc := ⟨.hbm, 95, rfl⟩
abbrev main_while0b_v51 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩

abbrev nD : Nat := 1
abbrev τ : Topo := Topo.v7x

variable {F : FTy → Type} [FloatOps F]

abbrev main_while0_count : Scf.Loop 32 := ⟨0#32, 2048#32, 1#32⟩
-- ==== Proof.BitsRun.lean ====
/- One call of the kernel's body, at any arithmetic: it ends, and it leaves the buffers it only reads as they were.
   Nothing is said of what it writes; this is all the frame claim of the bit-exact program needs. -/
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.BitsRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The kernel's one branch: it is taken at the first tile of a sequence, where the second grid coordinate is zero. -/
abbrev FirstTile (i : grid0.Coords) : Prop := (Scalar.cmpi .ne (Scalar.extui (Scalar.cmpi .eq (BitVec.ofNat 32 (i 1).val) 0#32)) 0#32) = 1#1

set_option maxHeartbeats 1000000 in
/-- One call of the kernel's body, with the inputs' buffers at known contents and every other buffer at any contents:
    it runs to the end, leaves the inputs' buffers alone and the other buffers at some contents. -/
theorem body_runs (c : Dev nD) (i : grid0.Coords) (arg2 : Memref sig .tc .vmem S1x1024x1024 .f32) (harg2 : arg2.IsWhole) (arg3 : Memref sig .tc .vmem S1024x3072 .f32) (harg3 : arg3.IsWhole) (arg4 : Memref sig .tc .vmem S1x1024 .f32) (harg4 : arg4.IsWhole)
    (arg5 : Memref sig .tc .vmem S1x1024x1024 .f32) (harg5 : arg5.IsWhole) (arg6 : Memref sig .tc .vmem S1x1024 .f32) (harg6 : arg6.IsWhole) (arg7 : Memref sig .tc .vmem S1x1024 .f32) (harg7 : arg7.IsWhole)
    (x0 : Vec F S1x1024x1024 .f32) (x1 : Vec F S1024x3072 .f32) (x2 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0__hnet_kernel i arg2 harg2 arg3 harg3 arg4 harg4 arg5 harg5 arg6 harg6 arg7 harg7) K := by
  by_cases hc : FirstTile i
  all_goals
    simp only [cc0__hnet_kernel_eq_skeleton]; unfold cc0__hnet_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.BitsRun

end
-- ==== Proof.BitsFrame.lean ====
/- The frame claim of the bit-exact program: the launch over the sixteen grid points, from the run of one call of the
   body (BitsRun). -/
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.BitsRun

@[expose] public section

set_option maxRecDepth 16384

noncomputable section

namespace Cert.Kernel.BitsFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ
open Cert.Kernel.BitsRun

variable (m : (ℓ : Loc nD τ sig) → Buf (Elt F) ℓ) (ρ : Dev nD → PrngReg)

/-- Nothing is recorded of the output block (window 3). -/
def forgets : Fin 4 → Bool := fun w => w.val == 3

/-- What holds between grid points: the three inputs' buffers keep their blocks, the output and both scratch rows hold
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The region's invariant is the two scratch rows at some contents, beside the generator's register. -/
theorem between_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any grid point turns the one into the other, by the run of one call. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2,
    show (dats m 0 c).Φ t.succ = Pipeline.ΦA spec0 c from rfl, show (dats m 0 c).Φ t.castSucc = Pipeline.ΦA spec0 c from rfl,
    between_eq]
  iintro ⟨⟨⟨HS0, HS1⟩, Hg⟩, Ho, ⟨%d0, H0⟩, ⟨%d1, H1⟩, ⟨%d2, H2⟩, ⟨%d3, H3⟩⟩
  iapply (body_runs c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at a point is the body as called there. -/
theorem defs_row (t : Fin cfg0.N) :
    defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

-- the launch theorem's implicit arguments are found by unifying its conclusion, which unfolds plain definitions in types
set_option backward.isDefEq.respectTransparency.types false in
/-- The whole run: every input array ends as the region found it, every buffer the region does not touch likewise, and
    every semaphore counter ends at zero. -/
theorem run_quiescent : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- The frame claim: every run ends with the argument arrays unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_quiescent m ρ)

end Cert.Kernel.BitsFrame

end
-- ==== Proof.Tile.lean ====
/- What the kernel computes for one tile, block by block, at any arithmetic. The names of this module are built from the
   values the program names, so that each is what the program computes by definition. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! One tile as the kernel computes it: names for the pieces of its arithmetic, each built from the program's own values. -/

/-- The tile of the input, as loaded. -/
def tileX (x0 : Vec F S1x1024x1024 .f32) : Vec F S1x1024x1024 .f32 :=
  View.ld x0 (Rect.unit (s := S1x1024x1024) ![0, 0, 0] S1x1024x1024.size inb_S1x1024x1024_S1x1024x1024_0_0_0)
/-- The three weights, side by side in one array. -/
def wq (x1 : Vec F S1024x3072 .f32) : Vec F S1024x1024 .f32 :=
  View.ld x1 (Rect.unit (s := S1024x3072) ![0, 0] S1024x1024.size inb_S1024x3072_S1024x1024_0_0)
def wk (x1 : Vec F S1024x3072 .f32) : Vec F S1024x1024 .f32 :=
  View.ld x1 (Rect.unit (s := S1024x3072) ![0, 1024] S1024x1024.size inb_S1024x3072_S1024x1024_0_1024)
def wr (x1 : Vec F S1024x3072 .f32) : Vec F S1024x1024 .f32 :=
  View.ld x1 (Rect.unit (s := S1024x3072) ![0, 2048] S1024x1024.size inb_S1024x3072_S1024x1024_0_2048)
/-- A row buffer, as loaded. -/
def row (r : Vec F S1x1024 .f32) : Vec F S1x1024 .f32 :=
  View.ld r (Rect.unit (s := S1x1024) ![0, 0] S1x1024.size inb_S1x1024_S1x1024_0_0)

/-- The bit that says a grid point is the first tile of its sequence. -/
abbrev firstBit (i : grid0.Coords) : BitVec 1 := Scalar.cmpi .eq (BitVec.ofNat 32 (i 1).val) 0#32
/-- The kernel's one branch: it is taken at the first tile of a sequence, where the second grid coordinate is zero. -/
abbrev FirstTile (i : grid0.Coords) : Prop := (Scalar.cmpi .ne (Scalar.extui (firstBit i)) 0#32) = 1#1

/-- The gates of the tile's 1024 rows, and the logarithms of what one minus each keeps. -/
def gates (b0 : BitVec 1) (x0 : Vec F S1x1024x1024 .f32) (x1 : Vec F S1024x3072 .f32) (q : Vec F S1x1024 .f32) : FVec F S1024x1 .f32 :=
  k0_pay12 b0 (k0_pay8 (tileX x0) (wq x1) (wk x1) (row q)) (k0_pay9 (tileX x0) (wk x1)) (k0_pay10 (tileX x0) (wq x1) (row q)) (k0_pay11 (F := F))
def keeps (b0 : BitVec 1) (x0 : Vec F S1x1024x1024 .f32) (x1 : Vec F S1024x3072 .f32) (q : Vec F S1x1024 .f32) : FVec F S1024x1 .f32 :=
  k0_pay13 b0 (k0_pay8 (tileX x0) (wq x1) (wk x1) (row q)) (k0_pay9 (tileX x0) (wk x1)) (k0_pay10 (tileX x0) (wq x1) (row q)) (k0_pay11 (F := F))

/-- Block `b` of 128 rows: of a column, and of a matrix. -/
theorem colFits (b : Fin 8) : Shape.Slices S1024x1 ![128 * b.val, 0] S128x1 := by revert b; decide
theorem matFits (b : Fin 8) : Shape.Slices S1024x1024 ![128 * b.val, 0] S128x1024 := by revert b; decide
def colBlk (b : Fin 8) (v : FVec F S1024x1 .f32) : FVec F S128x1 .f32 := extractStridedSlice S128x1 ![128 * b.val, 0] v (colFits b)
def matBlk (b : Fin 8) (v : FVec F S1024x1024 .f32) : FVec F S128x1024 .f32 := extractStridedSlice S128x1024 ![128 * b.val, 0] v (matFits b)

/-- The running sums of a block's logarithms. -/
def runSum (la : FVec F S128x1 .f32) : FVec F S128x1 .f32 :=
  matmul dot_S128x128_S128x1_S128x1_1_0_0_1_n_n (some .fp32) (k0_pay15 (F := F)) la (constant S128x1 .f32 0x00000000#32)
/-- The scan of a block from a zero start. -/
def blockScan (la p : FVec F S128x1 .f32) (x : FVec F S128x1024 .f32) : FVec F S128x1024 .f32 :=
  matmul dot_S128x128_S128x1024_S128x1024_1_0_0_1_n_n none
    (select k0_pay14
      (exp (subf (broadcastTo S128x128 (runSum la) broadcasts_S128x1_S128x128)
        (broadcastTo S128x128 (transpose S1x128 [1, 0] (runSum la) transposes_S128x1_p1_0_S1x128) broadcasts_S1x128_S128x128)))
      (broadcast S128x128 (Scalar.ofBits .f32 0x00000000#32)))
    (mulf (broadcastTo S128x1024 p broadcasts_S128x1_S128x1024) x) (constant S128x1024 .f32 0x00000000#32)
/-- A block's scan from a given start: the scan from zero plus the decayed start. -/
def withStart (z : FVec F S128x1024 .f32) (e : FVec F S128x1 .f32) (s : Vec F S1x1024 .f32) : FVec F S128x1024 .f32 :=
  addf z (mulf (broadcastTo S128x1024 e broadcasts_S128x1_S128x1024) (broadcastTo S128x1024 s broadcasts_S1x1024_S128x1024))
/-- The row a block hands the next. -/
def lastRow (z : FVec F S128x1024 .f32) : FVec F S1x1024 .f32 := extractStridedSlice S1x1024 ![127, 0] z slices_S128x1024_o127_0_S1x1024

/-- The scan of block `b` of a tile from the row `s`. -/
def blockOut (x : FVec F S1024x1024 .f32) (p la : FVec F S1024x1 .f32) (b : Fin 8) (s : Vec F S1x1024 .f32) : FVec F S128x1024 .f32 :=
  withStart (blockScan (colBlk b la) (colBlk b p) (matBlk b x)) (exp (runSum (colBlk b la))) s
/-- The row that enters block `n`, the blocks before it having been scanned from the row `s`. -/
def enter (x : FVec F S1024x1024 .f32) (p la : FVec F S1024x1 .f32) (s : Vec F S1x1024 .f32) : ℕ → Vec F S1x1024 .f32
  | 0 => s
  | n + 1 => lastRow (blockOut x p la (Fin.ofNat 8 n) (enter x p la s n))
/-- What is stored for a block: its rows of the third product, the bias, and the scan. -/
def stored (r : FVec F S128x1024 .f32) (bias : Vec F S1x1024 .f32) (z : FVec F S128x1024 .f32) : FVec F S1x128x1024 .f32 :=
  shapeCast S1x128x1024 (addf (addf r (broadcastTo S128x1024 (shapeCast S1x1024 bias shapeCasts_S1x1024_S1x1024) broadcasts_S1x1024_S128x1024)) z) shapeCasts_S128x1024_S1x128x1024

/-- What a tile stores for its block `b`, its previous query row being `q` and its scan starting from the row `s`. -/
def piece (b0 : BitVec 1) (x0 : Vec F S1x1024x1024 .f32) (x1 : Vec F S1024x3072 .f32) (x2 q s : Vec F S1x1024 .f32) (b : Fin 8) : FVec F S1x128x1024 .f32 :=
  stored (matBlk b (k0_pay6 (tileX x0) (wr x1))) (row x2)
    (blockOut (k0_pay3 (tileX x0)) (gates b0 x0 x1 q) (keeps b0 x0 x1 q) b (enter (k0_pay3 (tileX x0)) (gates b0 x0 x1 q) (keeps b0 x0 x1 q) s b.val))
/-- The row a tile's scan ends at. -/
def lastOf (b0 : BitVec 1) (x0 : Vec F S1x1024x1024 .f32) (x1 : Vec F S1024x3072 .f32) (q s : Vec F S1x1024 .f32) : Vec F S1x1024 .f32 :=
  enter (k0_pay3 (tileX x0)) (gates b0 x0 x1 q) (keeps b0 x0 x1 q) s 8

theorem blockFits (b : Fin 8) : ∀ a, (![0, 128 * b.val, 0] : Fin 3 → ℕ) a + S1x128x1024.size a ≤ S1x1024x1024.size a := by revert b; decide
/-- The rectangle of the output that block `b` is stored at. -/
abbrev blockRect (b : Fin 8) : Rect S1x1024x1024 := Rect.unit (s := S1x1024x1024) ![0, 128 * b.val, 0] S1x128x1024.size (blockFits b)
/-- The rectangle of a whole row buffer. -/
abbrev rowRect : Rect S1x1024 := Rect.unit (s := S1x1024) ![0, 0] S1x1024.size inb_S1x1024_S1x1024_0_0

end Cert.KernelIdeal.Tile

end
-- ==== Proof.Scan.lean ====
/- The exponential moving average as a recurrence over the extended reals, and its closed form over a block of rows: the
   sum the kernel's two matrix products compute. The gates are real and below one; the averaged values may be infinite. -/
module

public import Idealize.ShloMosaic.Lib.IdealHost

@[expose] public section

noncomputable section

namespace Cert.Scan

open Finset

/-- The average after `n` steps from `s`: each step weighs the new value by the gate and the old average by the rest. -/
def scan (g x : ℕ → EReal) (s : EReal) : ℕ → EReal
  | 0 => s
  | n + 1 => g n * x n + (1 - g n) * scan g x s n

/-- Going on after `m` steps is starting afresh from the average reached. -/
theorem scan_add (g x : ℕ → EReal) (s : EReal) (m : ℕ) :
    ∀ n, scan g x s (m + n) = scan (fun k => g (m + k)) (fun k => x (m + k)) (scan g x s m) n
  | 0 => rfl
  | n + 1 => by
    rw [← Nat.add_assoc, scan, scan, scan_add g x s m n]

/-- The average reads its gates and values only before its end. -/
theorem scan_congr {g g' x x' : ℕ → EReal} (s : EReal) :
    ∀ n, (∀ k < n, g k = g' k) → (∀ k < n, x k = x' k) → scan g x s n = scan g' x' s n
  | 0, _, _ => rfl
  | n + 1, hg, hx => by
    rw [scan, scan, hg n n.lt_succ_self, hx n n.lt_succ_self,
      scan_congr s n (fun k hk => hg k (hk.trans n.lt_succ_self)) (fun k hk => hx k (hk.trans n.lt_succ_self))]

/-- A finite nonnegative factor goes into a sum. -/
theorem mul_sum_real {ι : Type} (a : ℝ) (ha : 0 ≤ a) (f : ι → EReal) (t : Finset ι) :
    (a : EReal) * ∑ k ∈ t, f k = ∑ k ∈ t, (a : EReal) * f k := by
  classical
  induction t using Finset.induction_on with
  | empty => simp
  | insert k t hk ih =>
    rw [sum_insert hk, sum_insert hk, EReal.left_distrib_of_nonneg_of_ne_top (EReal.coe_nonneg.mpr ha) (EReal.coe_ne_top a), ih]

/-- A sum of reals, taken in the extended reals. -/
theorem coe_sum {ι : Type} (f : ι → ℝ) (t : Finset ι) : ((∑ k ∈ t, f k : ℝ) : EReal) = ∑ k ∈ t, (f k : EReal) := by
  classical
  induction t using Finset.induction_on with
  | empty => simp
  | insert k t hk ih => rw [sum_insert hk, sum_insert hk, EReal.coe_add, ih]

/-- The running sum of the logarithms of what each step keeps. -/
def logSum (r : ℕ → ℝ) (j : ℕ) : ℝ := ∑ k ∈ range (j + 1), Real.log (1 - r k)

/-- One more step multiplies the kept share by what the step keeps. -/
theorem exp_logSum_succ (r : ℕ → ℝ) (j : ℕ) (h : r (j + 1) < 1) (d : ℝ) :
    (1 - r (j + 1)) * Real.exp (logSum r j - d) = Real.exp (logSum r (j + 1) - d) := by
  have hp : 0 < 1 - r (j + 1) := by linarith
  have : logSum r (j + 1) - d = Real.log (1 - r (j + 1)) + (logSum r j - d) := by
    unfold logSum; rw [sum_range_succ _ (j + 1)]; ring
  rw [this, Real.exp_add, Real.exp_log hp]

/-- The closed form: after step `j` the average is the sum of the weighted values, each decayed by the steps after it, plus
    the start decayed by all of them. -/
theorem scan_closed (g x : ℕ → EReal) (s : EReal) (r : ℕ → ℝ) (N : ℕ) (hg : ∀ k < N, g k = (r k : EReal)) (hr : ∀ k < N, r k < 1) :
    ∀ j < N, scan g x s (j + 1)
      = ∑ k ∈ range N, (if k ≤ j then ((Real.exp (logSum r j - logSum r k) : ℝ) : EReal) else 0) * (g k * x k)
        + ((Real.exp (logSum r j) : ℝ) : EReal) * s
  | 0, hj => by
    rw [sum_eq_single_of_mem 0 (mem_range.mpr hj) (fun k _ hk => by rw [if_neg (by omega), zero_mul])]
    rw [if_pos (le_refl 0), sub_self, Real.exp_zero, EReal.coe_one, one_mul, scan, scan, hg 0 hj]
    have : logSum r 0 = Real.log (1 - r 0) := by simp [logSum]
    rw [this, Real.exp_log (by linarith [hr 0 hj]), EReal.coe_sub, EReal.coe_one]
  | j + 1, hj => by
    have hp : 0 ≤ 1 - r (j + 1) := by linarith [hr _ hj]
    have hk : (1 : EReal) - g (j + 1) = ((1 - r (j + 1) : ℝ) : EReal) := by rw [hg _ hj, EReal.coe_sub, EReal.coe_one]
    rw [scan, scan_closed g x s r N hg hr j (Nat.lt_of_succ_lt hj), hk,
      EReal.left_distrib_of_nonneg_of_ne_top (EReal.coe_nonneg.mpr hp) (EReal.coe_ne_top _), mul_sum_real _ hp, ← add_assoc]
    congr 1
    · have hsplit : ∀ k ∈ range N,
          (if k ≤ j + 1 then ((Real.exp (logSum r (j + 1) - logSum r k) : ℝ) : EReal) else 0) * (g k * x k)
            = (if j + 1 = k then g k * x k else 0)
              + ((1 - r (j + 1) : ℝ) : EReal) * ((if k ≤ j then ((Real.exp (logSum r j - logSum r k) : ℝ) : EReal) else 0) * (g k * x k)) := by
        intro k _
        by_cases h1 : k ≤ j
        · rw [if_pos (h1.trans (Nat.le_succ j)), if_pos h1, if_neg (by omega), zero_add, ← mul_assoc ((1 - r (j + 1) : ℝ) : EReal), ← EReal.coe_mul,
            exp_logSum_succ r j (hr _ hj)]
        · by_cases h2 : j + 1 = k
          · subst h2
            rw [if_pos (le_refl _), if_pos rfl, if_neg h1, sub_self, Real.exp_zero, EReal.coe_one, one_mul, zero_mul, mul_zero, add_zero]
          · rw [if_neg (by omega), if_neg h2, if_neg h1, zero_mul, mul_zero, add_zero]
      rw [sum_congr rfl hsplit, sum_add_distrib, sum_ite_eq, if_pos (mem_range.mpr hj)]
    · rw [← mul_assoc, ← EReal.coe_mul]
      have := exp_logSum_succ r j (hr _ hj) 0
      simp only [sub_zero] at this
      rw [this]

end Cert.Scan

end
-- ==== Proof.Spec.lean ====
/- What the kernel and the reference both compute, as plain mathematics over the extended reals: a router that compares each
   token's key with the query of the token before it, an exponential moving average of the tokens gated by the router, and
   a projection added to it. -/
module

public import proofs.«01_k».proof.Proof.Scan
public import Idealize.ShloMosaic.Lib.Pointwise

@[expose] public section

noncomputable section

namespace Cert.Spec

open Idealize.ShloMosaic

/-- The constants of the program, as the words it prints: the least norm, the least and the greatest gate, and a half. -/
abbrev least : EReal := Ideal.ofBits .f32 0x322BCC77#32
abbrev lo : EReal := Ideal.ofBits .f32 0x38D1B717#32
abbrev hi : EReal := Ideal.ofBits .f32 0x3F7FF972#32
abbrev half : EReal := Ideal.ofBits .f32 0x3F000000#32

/-- A row times a matrix. -/
def proj (w : Fin 1024 → Fin 1024 → EReal) (r : Fin 1024 → EReal) (n : Fin 1024) : EReal := ∑ k, r k * w k n
/-- The norm of a row, kept away from zero. -/
def norm (a : Fin 1024 → EReal) : EReal := max (Ideal.sqrt (∑ d, a d * a d)) least
/-- The cosine similarity of two rows. -/
def cosine (a b : Fin 1024 → EReal) : EReal := Ideal.div (∑ d, a d * b d) (norm a * norm b)
/-- The router's score of a cosine: how far the two rows turn away from each other, between zero and one. -/
def score (c : EReal) : EReal := min 1 (max 0 (half - half * c))
/-- The gate of a score: zero below a half, and otherwise the score kept away from zero and one. -/
def squash (p : EReal) : EReal := if half ≤ p then min hi (max lo p) else 0

/-- The gate of token `t`: the first token's score is one, every other's compares it with the token before it. -/
def gate (wq wk : Fin 1024 → Fin 1024 → EReal) (x : ℕ → Fin 1024 → EReal) (t : ℕ) : EReal :=
  squash (if t = 0 then 1 else score (cosine (proj wq (x (t - 1))) (proj wk (x t))))
/-- The moving average after `n` tokens, from zero. -/
def average (wq wk : Fin 1024 → Fin 1024 → EReal) (x : ℕ → Fin 1024 → EReal) (n : ℕ) (d : Fin 1024) : EReal :=
  Scan.scan (gate wq wk x) (fun t => x t d) 0 n
/-- The result for token `t`: its projection with the bias, and the average up to it. -/
def out (wq wk wr : Fin 1024 → Fin 1024 → EReal) (bias : Fin 1024 → EReal) (x : ℕ → Fin 1024 → EReal) (t : ℕ) (d : Fin 1024) : EReal :=
  (proj wr (x t) d + bias d) + average wq wk x (t + 1) d

/-- The tokens of sequence `b` of the input array, and the entries of a weight and of the bias. -/
def tokens (x : FVec Ideal ⟨3, ![8, 2048, 1024]⟩ .f32) (b : Fin 8) (t : ℕ) (d : Fin 1024) : EReal :=
  if h : t < 2048 then x (ix3 b ⟨t, h⟩ d) else 0
def mat (w : FVec Ideal ⟨2, ![1024, 1024]⟩ .f32) (k n : Fin 1024) : EReal := w (ix2 k n)
def vec (b : FVec Ideal ⟨1, ![1024]⟩ .f32) (d : Fin 1024) : EReal := b (ix1 d)

/-- The whole result. -/
def result (x : FVec Ideal ⟨3, ![8, 2048, 1024]⟩ .f32) (wq wk wr : FVec Ideal ⟨2, ![1024, 1024]⟩ .f32) (b : FVec Ideal ⟨1, ![1024]⟩ .f32) :
    FVec Ideal ⟨3, ![8, 2048, 1024]⟩ .f32 :=
  fun i => out (mat wq) (mat wk) (mat wr) (vec b) (tokens x (i 0)) (i 1).val (i 2)

/-! The constants' values, where they matter. -/

theorem half_eq : half = ((1 / 2 : ℝ) : EReal) := by
  simp [half, Ideal.ofBits, Ideal.ieee]; rw [← EReal.coe_mul, EReal.coe_eq_coe_iff]; norm_num
theorem two_eq : Ideal.ofBits .f32 0x40000000#32 = ((2 : ℝ) : EReal) := by
  simp [Ideal.ofBits, Ideal.ieee]; rw [← EReal.coe_mul, EReal.coe_eq_coe_iff]; norm_num
theorem lo_ne_bot : lo ≠ ⊥ := by
  simp [lo, Ideal.ofBits, Ideal.ieee]; rw [← EReal.coe_mul]; exact EReal.coe_ne_bot _
theorem hi_lt_one : hi < 1 := by
  simp [hi, Ideal.ofBits, Ideal.ieee]; rw [← EReal.coe_mul, ← EReal.coe_one, EReal.coe_lt_coe_iff]; norm_num
theorem hi_ne_bot : hi ≠ ⊥ := by
  simp [hi, Ideal.ofBits, Ideal.ieee]; rw [← EReal.coe_mul]; exact EReal.coe_ne_bot _

/-- A gate is a real below one. -/
theorem squash_real (p : EReal) : ∃ r : ℝ, squash p = (r : EReal) ∧ r < 1 := by
  unfold squash
  split
  · have hlt : min hi (max lo p) < 1 := lt_of_le_of_lt (min_le_left _ _) hi_lt_one
    have hb : min hi (max lo p) ≠ ⊥ := by
      intro h
      rcases min_eq_bot.mp h with h | h
      · exact hi_ne_bot h
      · exact lo_ne_bot (max_eq_bot.mp h).1
    refine ⟨(min hi (max lo p)).toReal, (EReal.coe_toReal (ne_top_of_lt hlt) hb).symm, ?_⟩
    have := EReal.coe_toReal (ne_top_of_lt hlt) hb
    rw [← this] at hlt
    exact_mod_cast hlt
  · exact ⟨0, EReal.coe_zero.symm, one_pos⟩

theorem gate_real (wq wk : Fin 1024 → Fin 1024 → EReal) (x : ℕ → Fin 1024 → EReal) (t : ℕ) : ∃ r : ℝ, gate wq wk x t = (r : EReal) ∧ r < 1 :=
  squash_real _
/-- The real value of a gate. -/
def gateR (wq wk : Fin 1024 → Fin 1024 → EReal) (x : ℕ → Fin 1024 → EReal) (t : ℕ) : ℝ := (gate_real wq wk x t).choose
theorem gate_eq (wq wk : Fin 1024 → Fin 1024 → EReal) (x : ℕ → Fin 1024 → EReal) (t : ℕ) : gate wq wk x t = (gateR wq wk x t : EReal) :=
  (gate_real wq wk x t).choose_spec.1
theorem gateR_lt (wq wk : Fin 1024 → Fin 1024 → EReal) (x : ℕ → Fin 1024 → EReal) (t : ℕ) : gateR wq wk x t < 1 :=
  (gate_real wq wk x t).choose_spec.2

end Cert.Spec

end
-- ==== Proof.TileValue.lean ====
/- The tile's arithmetic read at an index, at the extended reals. -/
module

public import proofs.«01_k».proof.Proof.Tile
public import proofs.«01_k».proof.Proof.Spec
public import Idealize.ShloMosaic.Lib.WordCmp
public import Idealize.ShloMosaic.Lib.Pointwise
public import Idealize.ShloMosaic.Lib.Pipeline.Value

@[expose] public section

set_option maxRecDepth 16384

noncomputable section

namespace Cert.KernelIdeal.TileValue

open Idealize.ShloMosaic
open Cert.KernelIdeal.Gen Cert.KernelIdeal.Tile

/-! Each named piece of a tile, at an index. -/

theorem pay3_apply (x0 : Vec Ideal S1x1024x1024 .f32) (j d : Fin 1024) : k0_pay3 (F := Ideal) (tileX x0) (ix2 j d) = x0 (ix3 (0 : Fin 1) j d) := by
  pointwise [k0_pay3, tileX]
theorem row_apply (r : Vec Ideal S1x1024 .f32) (d : Fin 1024) : row (F := Ideal) r (ix2 (0 : Fin 1) d) = r (ix2 (0 : Fin 1) d) := by
  pointwise [row]
/-- The three products of the tile: each row times a matrix. -/
theorem pay4_apply (x0 : Vec Ideal S1x1024x1024 .f32) (w : Vec Ideal S1024x1024 .f32) (j n : Fin 1024) :
    k0_pay4 (F := Ideal) (tileX x0) w (ix2 j n) = Spec.proj (Spec.mat w) (fun d => x0 (ix3 (0 : Fin 1) j d)) n := by
  pointwise [k0_pay4, k0_pay3, tileX, Spec.proj, Spec.mat]
theorem pay5_apply (x0 : Vec Ideal S1x1024x1024 .f32) (w : Vec Ideal S1024x1024 .f32) (j n : Fin 1024) :
    k0_pay5 (F := Ideal) (tileX x0) w (ix2 j n) = Spec.proj (Spec.mat w) (fun d => x0 (ix3 (0 : Fin 1) j d)) n := by
  pointwise [k0_pay5, k0_pay3, tileX, Spec.proj, Spec.mat]
theorem pay6_apply (x0 : Vec Ideal S1x1024x1024 .f32) (w : Vec Ideal S1024x1024 .f32) (j n : Fin 1024) :
    k0_pay6 (F := Ideal) (tileX x0) w (ix2 j n) = Spec.proj (Spec.mat w) (fun d => x0 (ix3 (0 : Fin 1) j d)) n := by
  pointwise [k0_pay6, k0_pay3, tileX, Spec.proj, Spec.mat]
theorem pay7_apply (x0 : Vec Ideal S1x1024x1024 .f32) (w : Vec Ideal S1024x1024 .f32) (n : Fin 1024) :
    k0_pay7 (F := Ideal) (tileX x0) w (ix2 (0 : Fin 1) n) = Spec.proj (Spec.mat w) (fun d => x0 (ix3 (0 : Fin 1) (1023 : Fin 1024) d)) n := by
  rw [← pay4_apply]
  pointwise [k0_pay7]
/-- The query row before each row of the tile: the carried one before the first. -/
theorem pay8_apply (x0 : Vec Ideal S1x1024x1024 .f32) (w1 w2 : Vec Ideal S1024x1024 .f32) (q : Vec Ideal S1x1024 .f32) (p : Fin 1024 → EReal) (j : Fin 1024)
    (hp : ∀ d, p d = if j.val = 0 then q (ix2 (0 : Fin 1) d) else k0_pay4 (F := Ideal) x0 w1 (ix2 (⟨j.val - 1, by omega⟩ : Fin 1024) d)) :
    k0_pay8 (F := Ideal) x0 w1 w2 q (ix2 j (0 : Fin 1)) = ∑ d, p d * k0_pay5 (F := Ideal) x0 w2 (ix2 j d) := by
  pointwise [k0_pay8]
  refine Finset.sum_congr rfl fun d _ => congrArg (· * _) ?_
  rw [hp d]
  by_cases h : j.val = 0
  · rw [dif_pos (by omega), if_pos h]
    exact congrArg q (congrArg (fun r => ix2 r d) (Fin.ext h))
  · rw [dif_neg (by omega), if_neg h]
theorem pay9_apply (x0 : Vec Ideal S1x1024x1024 .f32) (w : Vec Ideal S1024x1024 .f32) (j : Fin 1024) :
    k0_pay9 (F := Ideal) x0 w (ix2 j (0 : Fin 1)) = ∑ d, k0_pay5 (F := Ideal) x0 w (ix2 j d) * k0_pay5 (F := Ideal) x0 w (ix2 j d) := by
  pointwise [k0_pay9]
theorem pay10_apply (x0 : Vec Ideal S1x1024x1024 .f32) (w : Vec Ideal S1024x1024 .f32) (q : Vec Ideal S1x1024 .f32) (p : Fin 1024 → EReal) (j : Fin 1024)
    (hp : ∀ d, p d = if j.val = 0 then q (ix2 (0 : Fin 1) d) else k0_pay4 (F := Ideal) x0 w (ix2 (⟨j.val - 1, by omega⟩ : Fin 1024) d)) :
    k0_pay10 (F := Ideal) x0 w q (ix2 j (0 : Fin 1)) = Ideal.sqrt (∑ d, p d * p d) := by
  pointwise [k0_pay10]
  refine congrArg Ideal.sqrt ?_
  by_cases h : j.val = 0
  · rw [dif_pos (by omega)]
    exact Finset.sum_congr rfl fun d _ => by rw [hp d, if_pos h]
  · rw [dif_neg (by omega)]
    exact Finset.sum_congr rfl fun d _ => by rw [hp d, if_neg h]
/-- The gate of a row, from its inner product and its two norms. -/
theorem pay12_apply (b0 : BitVec 1) (a b c d : FVec Ideal S1024x1 .f32) (j : Fin 1024) :
    k0_pay12 (F := Ideal) b0 a b c d (ix2 j (0 : Fin 1))
      = Spec.squash (Scalar.select (IntOp.andi b0 (IntOp.cmpi .eq (BitVec.ofNat 32 j.val) 0#32)) 1
          (Spec.score (Ideal.div (a (ix2 j 0)) (max (c (ix2 j 0)) (d (ix2 j 0)) * max (Ideal.sqrt (b (ix2 j 0))) Spec.least)))) := by
  pointwise [k0_pay12, Spec.squash, Spec.score]
theorem pay13_apply (b0 : BitVec 1) (a b c d : FVec Ideal S1024x1 .f32) (j : Fin 1024) :
    k0_pay13 (F := Ideal) b0 a b c d (ix2 j (0 : Fin 1)) = Ideal.log (1 - k0_pay12 (F := Ideal) b0 a b c d (ix2 j 0)) := by
  pointwise [k0_pay13]
theorem pay14_apply (i j : Fin 128) : k0_pay14 (ix2 i j) = BitVec.ofBool (decide (j.val ≤ i.val)) := by
  pointwise [k0_pay14]
  exact WordCmp.cmpi_sge_ofNat (by omega) (by omega)
theorem pay16_apply (d : Fin 1024) : k0_pay16 (F := Ideal) (ix2 (0 : Fin 1) d) = 0 := by
  pointwise [k0_pay16]
theorem runSum_apply (la : FVec Ideal S128x1 .f32) (i : Fin 128) :
    runSum la (ix2 i (0 : Fin 1)) = ∑ k : Fin 128, if k.val ≤ i.val then la (ix2 k (0 : Fin 1)) else 0 := by
  pointwise [runSum, k0_pay15]
  exact Finset.sum_congr rfl fun k _ => by rw [pay14_apply]; simp [Scalar.select, WordCmp.ofBool_decide_eq_one_iff]
theorem blockScan_apply (la p : FVec Ideal S128x1 .f32) (x : FVec Ideal S128x1024 .f32) (i : Fin 128) (d : Fin 1024) :
    blockScan la p x (ix2 i d) = ∑ k : Fin 128, (if k.val ≤ i.val then Ideal.exp (runSum la (ix2 i (0 : Fin 1)) - runSum la (ix2 k (0 : Fin 1))) else 0)
      * (p (ix2 k (0 : Fin 1)) * x (ix2 k d)) := by
  pointwise [blockScan]
  refine Finset.sum_congr rfl fun k _ => ?_
  rw [pay14_apply]
  by_cases h : k.val ≤ i.val <;> simp [Scalar.select, h]
theorem withStart_apply (z : FVec Ideal S128x1024 .f32) (e : FVec Ideal S128x1 .f32) (s : Vec Ideal S1x1024 .f32) (i : Fin 128) (d : Fin 1024) :
    withStart z e s (ix2 i d) = z (ix2 i d) + e (ix2 i (0 : Fin 1)) * s (ix2 (0 : Fin 1) d) := by
  pointwise [withStart]
theorem lastRow_apply (z : FVec Ideal S128x1024 .f32) (d : Fin 1024) : lastRow z (ix2 (0 : Fin 1) d) = z (ix2 (127 : Fin 128) d) := by
  pointwise [lastRow]
theorem stored_apply (r : FVec Ideal S128x1024 .f32) (bias : Vec Ideal S1x1024 .f32) (z : FVec Ideal S128x1024 .f32) (i : Fin 128) (d : Fin 1024) :
    stored r bias z (ix3 (0 : Fin 1) i d) = (r (ix2 i d) + bias (ix2 (0 : Fin 1) d)) + z (ix2 i d) := by
  pointwise [stored]
theorem colBlk_apply (b : Fin 8) (v : FVec Ideal S1024x1 .f32) (i : Fin 128) :
    colBlk b v (ix2 i (0 : Fin 1)) = v (ix2 (⟨128 * b.val + i.val, by omega⟩ : Fin 1024) (0 : Fin 1)) := by
  pointwise [colBlk]
theorem matBlk_apply (b : Fin 8) (v : FVec Ideal S1024x1024 .f32) (i : Fin 128) (d : Fin 1024) :
    matBlk b v (ix2 i d) = v (ix2 (⟨128 * b.val + i.val, by omega⟩ : Fin 1024) d) := by
  pointwise [matBlk]
theorem exp_apply (v : FVec Ideal S128x1 .f32) (i : Fin 128) : (exp v : FVec Ideal S128x1 .f32) (ix2 i (0 : Fin 1)) = Ideal.exp (v (ix2 i (0 : Fin 1))) := rfl

/-! A tile of a sequence: what its buffers hold, and what it computes. -/

/-- The tile that starts at token `T` of the sequence `x`: its input, the weights, the bias, and the two carried rows. -/
structure Holds (mq mk mr : Fin 1024 → Fin 1024 → EReal) (bias : Fin 1024 → EReal) (x : ℕ → Fin 1024 → EReal) (T : ℕ) (b0 : BitVec 1)
    (x0 : Vec Ideal S1x1024x1024 .f32) (x1 : Vec Ideal S1024x3072 .f32) (x2 q s : Vec Ideal S1x1024 .f32) : Prop where
  first : b0 = BitVec.ofBool (decide (T = 0))
  tokens : ∀ j d : Fin 1024, x0 (ix3 (0 : Fin 1) j d) = x (T + j.val) d
  queries : Spec.mat (wq x1) = mq
  keys : Spec.mat (wk x1) = mk
  project : Spec.mat (wr x1) = mr
  bias : ∀ d, x2 (ix2 (0 : Fin 1) d) = bias d
  before : T ≠ 0 → ∀ d, q (ix2 (0 : Fin 1) d) = Spec.proj mq (x (T - 1)) d
  start : ∀ d, s (ix2 (0 : Fin 1) d) = Spec.average mq mk x T d

section
variable {mq mk mr : Fin 1024 → Fin 1024 → EReal} {bias : Fin 1024 → EReal} {x : ℕ → Fin 1024 → EReal} {T : ℕ} {b0 : BitVec 1}
  {x0 : Vec Ideal S1x1024x1024 .f32} {x1 : Vec Ideal S1024x3072 .f32} {x2 q s : Vec Ideal S1x1024 .f32}
  (h : Holds mq mk mr bias x T b0 x0 x1 x2 q s)
include h

theorem Holds.token (j : Fin 1024) : (fun d => x0 (ix3 (0 : Fin 1) j d)) = x (T + j.val) := funext fun d => h.tokens j d

/-- The gates of the tile's rows are the sequence's. -/
theorem Holds.gates_apply (j : Fin 1024) : gates b0 x0 x1 q (ix2 j (0 : Fin 1)) = Spec.gate mq mk x (T + j.val) := by
  rw [gates, pay12_apply, Spec.gate, h.first, show IntOp.cmpi .eq (BitVec.ofNat 32 j.val) 0#32 = BitVec.ofBool (decide (j.val = 0)) from
    WordCmp.cmpi_eq_ofNat (by omega) (by omega), WordCmp.andi_ofBool]
  by_cases h0 : T + j.val = 0
  · have hT : T = 0 := by omega
    have hj : j.val = 0 := by omega
    rw [if_pos h0]; simp [hT, hj, Scalar.select]
  · rw [if_neg h0]
    have hs : (decide (T = 0) && decide (j.val = 0)) = false := by
      by_cases hT : T = 0
      · have hj : j.val ≠ 0 := by omega
        simp [hj]
      · simp [hT]
    rw [hs]
    simp only [Scalar.select, BitVec.ofBool_false]
    rw [if_neg (by decide)]
    have hp : ∀ d, Spec.proj mq (x (T + j.val - 1)) d = if j.val = 0 then row q (ix2 (0 : Fin 1) d)
        else k0_pay4 (F := Ideal) (tileX x0) (wq x1) (ix2 (⟨j.val - 1, by omega⟩ : Fin 1024) d) := by
      intro d
      by_cases hj : j.val = 0
      · rw [if_pos hj, row_apply, h.before (by omega), hj, Nat.add_zero]
      · rw [if_neg hj, pay4_apply, h.queries, h.token, show T + j.val - 1 = T + (j.val - 1) by omega]
    rw [pay8_apply _ _ _ _ (Spec.proj mq (x (T + j.val - 1))) j hp, pay9_apply, pay10_apply _ _ _ (Spec.proj mq (x (T + j.val - 1))) j hp]
    simp only [pay5_apply, h.keys, h.token]
    rfl

/-- The logarithms of what the rows keep. -/
theorem Holds.keeps_apply (j : Fin 1024) : keeps b0 x0 x1 q (ix2 j (0 : Fin 1)) = ((Real.log (1 - Spec.gateR mq mk x (T + j.val)) : ℝ) : EReal) := by
  have hg := h.gates_apply j
  rw [gates] at hg
  have hr := Spec.gateR_lt mq mk x (T + j.val)
  rw [keeps, pay13_apply, hg, Spec.gate_eq, ← EReal.coe_one, ← EReal.coe_sub, Ideal.log_coe, if_neg (by linarith)]

/-- The running sums of block `b`. -/
theorem Holds.runSum_keeps (b : Fin 8) (i : Fin 128) : runSum (colBlk b (keeps b0 x0 x1 q)) (ix2 i (0 : Fin 1))
    = ((Scan.logSum (fun k => Spec.gateR mq mk x (T + 128 * b.val + k)) i.val : ℝ) : EReal) := by
  rw [runSum_apply, Scan.logSum, Scan.coe_sum]
  simp only [colBlk_apply, h.keeps_apply]
  have hf : (Finset.range 128).filter (· ≤ i.val) = Finset.range (i.val + 1) := by
    ext k; simp only [Finset.mem_filter, Finset.mem_range]; omega
  rw [← hf, Finset.sum_filter, Finset.sum_range]
  exact Finset.sum_congr rfl fun k _ => by rw [Nat.add_assoc]

/-- A block's scan from the average before it is the average after each of its rows. -/
theorem Holds.blockOut_apply (b : Fin 8) (s' : Vec Ideal S1x1024 .f32) (i : Fin 128) (d : Fin 1024)
    (hs : s' (ix2 (0 : Fin 1) d) = Spec.average mq mk x (T + 128 * b.val) d) :
    blockOut (k0_pay3 (tileX x0)) (gates b0 x0 x1 q) (keeps b0 x0 x1 q) b s' (ix2 i d) = Spec.average mq mk x (T + 128 * b.val + (i.val + 1)) d := by
  rw [Spec.average, Scan.scan_add, Scan.scan_closed _ _ _ (fun k => Spec.gateR mq mk x (T + 128 * b.val + k)) 128
    (fun k _ => Spec.gate_eq mq mk x _) (fun k _ => Spec.gateR_lt mq mk x _) i.val i.isLt, ← Spec.average, ← hs,
    blockOut, withStart_apply, blockScan_apply, exp_apply, h.runSum_keeps, Ideal.exp_coe, Finset.sum_range]
  refine congrArg (· + _) (Finset.sum_congr rfl fun k _ => ?_)
  rw [h.runSum_keeps, ← EReal.coe_sub, Ideal.exp_coe, colBlk_apply, matBlk_apply, h.gates_apply, pay3_apply, h.tokens,
    show T + (128 * b.val + k.val) = T + 128 * b.val + k.val by omega]

/-- The row that enters a block holds the average before it. -/
theorem Holds.enter_apply (d : Fin 1024) : ∀ n, n ≤ 8 →
    enter (k0_pay3 (tileX x0)) (gates b0 x0 x1 q) (keeps b0 x0 x1 q) (row s) n (ix2 (0 : Fin 1) d) = Spec.average mq mk x (T + 128 * n) d
  | 0, _ => by rw [enter, row_apply, h.start]; rfl
  | n + 1, hn => by
    have hb : (Fin.ofNat 8 n).val = n := Nat.mod_eq_of_lt (by omega)
    rw [enter, lastRow_apply, h.blockOut_apply _ _ _ _ (by rw [hb]; exact Holds.enter_apply d n (by omega)), hb]
    rfl

/-- What the tile stores is the result for its rows. -/
theorem Holds.piece_apply (b : Fin 8) (i : Fin 128) (d : Fin 1024) :
    Tile.piece b0 x0 x1 x2 q (row s) b (ix3 (0 : Fin 1) i d) = Spec.out mq mk mr bias x (T + (128 * b.val + i.val)) d := by
  rw [Tile.piece, stored_apply, matBlk_apply, pay6_apply, h.project, h.token, row_apply, h.bias,
    h.blockOut_apply b _ i d (h.enter_apply d b.val (by omega)), Spec.out,
    show T + 128 * b.val + (i.val + 1) = T + (128 * b.val + i.val) + 1 by omega]

/-- The row the tile hands on holds the average after it. -/
theorem Holds.lastOf_apply (d : Fin 1024) : lastOf b0 x0 x1 q (row s) (ix2 (0 : Fin 1) d) = Spec.average mq mk x (T + 1024) d :=
  h.enter_apply d 8 (le_refl 8)

/-- The query row it hands on is its last. -/
theorem Holds.query_apply (d : Fin 1024) : k0_pay7 (tileX x0) (wq x1) (ix2 (0 : Fin 1) d) = Spec.proj mq (x (T + 1023)) d := by
  rw [pay7_apply, h.queries, h.token]
  rfl

end

end Cert.KernelIdeal.TileValue

end
-- ==== Proof.Entry.lean ====
/- What the kernel's input blocks hold at each grid point, in the words of the specification: a tile of one sequence,
   the three weights side by side, and the bias as a row. -/
module

public import proofs.«01_k».proof.Proof.Gen.KernelIdeal.Frame
public import proofs.«01_k».proof.Proof.Gen.KernelIdeal.Launch
public import proofs.«01_k».proof.Proof.Gen.KernelIdeal.Points
public import proofs.«01_k».proof.Proof.TileValue
public import Idealize.ShloMosaic.Lib.StableHlo.ReadAt

@[expose] public section

set_option maxRecDepth 16384

noncomputable section

namespace Cert.KernelIdeal.Entry

open Idealize.ShloMosaic Idealize.ShloMosaic.TcCoe Idealize.ShloMosaic.Tactic
open Cert.KernelIdeal.Gen Cert.KernelIdeal.Tile

variable (m : (ℓ : Loc nD τ sig) → Buf (Elt Ideal) ℓ) (c : Dev nD)

/-! The arguments, as one core holds them. -/
abbrev argX : FVec Ideal ⟨3, ![8, 2048, 1024]⟩ .f32 := m ((c.tc : Thread nD τ).loc main_arg0)
abbrev argQ : FVec Ideal ⟨2, ![1024, 1024]⟩ .f32 := m ((c.tc : Thread nD τ).loc main_arg1)
abbrev argK : FVec Ideal ⟨2, ![1024, 1024]⟩ .f32 := m ((c.tc : Thread nD τ).loc main_arg2)
abbrev argR : FVec Ideal ⟨2, ![1024, 1024]⟩ .f32 := m ((c.tc : Thread nD τ).loc main_arg3)
abbrev argB : FVec Ideal ⟨1, ![1024]⟩ .f32 := m ((c.tc : Thread nD τ).loc main_arg4)

/-- The sequence a grid point works on, and the token its tile starts at. -/
def seq (t : ℕ) : Fin 8 := Fin.ofNat 8 (t / 2)
def tok (t : ℕ) : ℕ := 1024 * (t % 2)

/-! The grid, in closed form: two tiles for each sequence. -/

theorem firstBit_eq : ∀ t : Fin cfg0.N, firstBit (grid0.coords t) = BitVec.ofBool (decide (tok t.val = 0)) :=
  (by decide +kernel : ∀ t : Fin grid0.N, firstBit (grid0.coords t) = BitVec.ofBool (decide (tok t.val = 0)))
theorem firstTile_iff : ∀ t : Fin cfg0.N, FirstTile (grid0.coords t) ↔ t.val % 2 = 0 :=
  (by decide +kernel : ∀ t : Fin grid0.N, FirstTile (grid0.coords t) ↔ t.val % 2 = 0)
theorem in_0 : ∀ t : Fin cfg0.N, win0_0.index t 0 * win0_0.size 0 = (seq t.val).val :=
  (by decide +kernel : ∀ t : Fin grid0.N, win0_0.index t 0 * win0_0.size 0 = (seq t.val).val)
theorem in_1 : ∀ t : Fin cfg0.N, win0_0.index t 1 * win0_0.size 1 = tok t.val :=
  (by decide +kernel : ∀ t : Fin grid0.N, win0_0.index t 1 * win0_0.size 1 = tok t.val)
theorem in_2 : ∀ t : Fin cfg0.N, win0_0.index t 2 * win0_0.size 2 = 0 :=
  (by decide +kernel : ∀ t : Fin grid0.N, win0_0.index t 2 * win0_0.size 2 = 0)
theorem weights_0 : ∀ t : Fin cfg0.N, win0_1.index t 0 * win0_1.size 0 = 0 :=
  (by decide +kernel : ∀ t : Fin grid0.N, win0_1.index t 0 * win0_1.size 0 = 0)
theorem weights_1 : ∀ t : Fin cfg0.N, win0_1.index t 1 * win0_1.size 1 = 0 :=
  (by decide +kernel : ∀ t : Fin grid0.N, win0_1.index t 1 * win0_1.size 1 = 0)
theorem bias_0 : ∀ t : Fin cfg0.N, win0_2.index t 0 * win0_2.size 0 = 0 :=
  (by decide +kernel : ∀ t : Fin grid0.N, win0_2.index t 0 * win0_2.size 0 = 0)
theorem bias_1 : ∀ t : Fin cfg0.N, win0_2.index t 1 * win0_2.size 1 = 0 :=
  (by decide +kernel : ∀ t : Fin grid0.N, win0_2.index t 1 * win0_2.size 1 = 0)

/-! The two arrays made before the launch. -/

/-- The weights side by side. -/
theorem weights_apply (k : Fin 1024) (n : Fin 3072) : (V m c main_call0_v0 : FVec Ideal S1024x3072 .f32) (ix2 k n)
    = if h : n.val < 1024 then argQ m c (ix2 k ⟨n.val, h⟩)
      else if h' : n.val - 1024 < 1024 then argK m c (ix2 k ⟨n.val - 1024, h'⟩) else argR m c (ix2 k ⟨n.val - 1024 - 1024, by omega⟩) := by
  unfold V
  simp only [hostOps0]
  after_reads_at
  rfl
/-- The bias as a row. -/
theorem bias_apply (d : Fin 1024) : (V m c main_call0_v1 : FVec Ideal S1x1024 .f32) (ix2 (0 : Fin 1) d) = argB m c (ix1 d) := by
  unfold V
  simp only [hostOps0]
  after_reads_at

/-! The blocks the windows cut. -/

theorem tile_apply (t : Fin cfg0.N) (j d : Fin 1024) :
    (iblk m c 0 t : Vec Ideal S1x1024x1024 .f32) (ix3 (0 : Fin 1) j d) = Spec.tokens (argX m c) (seq t.val) (tok t.val + j.val) d := by
  have hT : tok t.val + j.val < 2048 := by have := j.isLt; simp only [tok]; omega
  rw [Spec.tokens, dif_pos hT]
  refine Eq.trans ?_ (congrFun (V_main_arg0 m c) (ix3 (seq t.val) (⟨tok t.val + j.val, hT⟩ : Fin 2048) d))
  refine congrArg (V m c main_arg0) (funext fun a => Fin.ext ?_)
  match a with
  | ⟨0, _⟩ => exact show win0_0.index t 0 * win0_0.size 0 + _ = _ by rw [in_0]; rfl
  | ⟨1, _⟩ => exact show win0_0.index t 1 * win0_0.size 1 + _ = _ by rw [in_1]; simp
  | ⟨2, _⟩ => exact show win0_0.index t 2 * win0_0.size 2 + _ = _ by rw [in_2]; simp

theorem weights_blk (t : Fin cfg0.N) (k : Fin 1024) (n : Fin 3072) :
    (iblk m c 1 t : Vec Ideal S1024x3072 .f32) (ix2 k n) = (V m c main_call0_v0 : FVec Ideal S1024x3072 .f32) (ix2 k n) := by
  refine congrArg (V m c main_call0_v0) (funext fun a => Fin.ext ?_)
  match a with
  | ⟨0, _⟩ => exact show win0_1.index t 0 * win0_1.size 0 + _ = _ by rw [weights_0]; simp
  | ⟨1, _⟩ => exact show win0_1.index t 1 * win0_1.size 1 + _ = _ by rw [weights_1]; simp

theorem bias_blk (t : Fin cfg0.N) (d : Fin 1024) : (iblk m c 2 t : Vec Ideal S1x1024 .f32) (ix2 (0 : Fin 1) d) = argB m c (ix1 d) := by
  rw [← bias_apply m c d]
  refine congrArg (V m c main_call0_v1) (funext fun a => Fin.ext ?_)
  match a with
  | ⟨0, _⟩ => exact show win0_2.index t 0 * win0_2.size 0 + _ = _ by rw [bias_0]; rfl
  | ⟨1, _⟩ => exact show win0_2.index t 1 * win0_2.size 1 + _ = _ by rw [bias_1]; simp

/-! The three weights, cut back out. -/

theorem wq_apply (x1 : Vec Ideal S1024x3072 .f32) (k n : Fin 1024) : wq (F := Ideal) x1 (ix2 k n) = x1 (ix2 k (⟨n.val, by omega⟩ : Fin 3072)) := by
  pointwise [wq]
theorem wk_apply (x1 : Vec Ideal S1024x3072 .f32) (k n : Fin 1024) : wk (F := Ideal) x1 (ix2 k n) = x1 (ix2 k (⟨1024 + n.val, by omega⟩ : Fin 3072)) := by
  pointwise [wk]
theorem wr_apply (x1 : Vec Ideal S1024x3072 .f32) (k n : Fin 1024) : wr (F := Ideal) x1 (ix2 k n) = x1 (ix2 k (⟨2048 + n.val, by omega⟩ : Fin 3072)) := by
  pointwise [wr]

theorem queries (t : Fin cfg0.N) : Spec.mat (wq (iblk m c 1 t : Vec Ideal S1024x3072 .f32)) = Spec.mat (argQ m c) := by
  funext k n
  have := n.isLt
  simp only [Spec.mat]
  rw [wq_apply, weights_blk, weights_apply, dif_pos (show n.val < 1024 by omega)]
theorem keys (t : Fin cfg0.N) : Spec.mat (wk (iblk m c 1 t : Vec Ideal S1024x3072 .f32)) = Spec.mat (argK m c) := by
  funext k n
  have := n.isLt
  simp only [Spec.mat]
  rw [wk_apply, weights_blk, weights_apply, dif_neg (show ¬ 1024 + n.val < 1024 by omega), dif_pos (show 1024 + n.val - 1024 < 1024 by omega)]
  exact congrArg (argK m c) (congrArg (ix2 k) (Fin.ext (by dsimp only; omega)))
theorem project (t : Fin cfg0.N) : Spec.mat (wr (iblk m c 1 t : Vec Ideal S1024x3072 .f32)) = Spec.mat (argR m c) := by
  funext k n
  have := n.isLt
  simp only [Spec.mat]
  rw [wr_apply, weights_blk, weights_apply, dif_neg (show ¬ 2048 + n.val < 1024 by omega), dif_neg (show ¬ 2048 + n.val - 1024 < 1024 by omega)]
  exact congrArg (argR m c) (congrArg (ix2 k) (Fin.ext (by dsimp only; omega)))

/-! The tile's buffers, together. -/

/-- What the rows carried between tiles mean, at the tile that starts at token `tok t`. -/
theorem holds (t : Fin cfg0.N) (q s : Vec Ideal S1x1024 .f32)
    (hq : tok t.val ≠ 0 → ∀ d, q (ix2 (0 : Fin 1) d) = Spec.proj (Spec.mat (argQ m c)) (Spec.tokens (argX m c) (seq t.val) (tok t.val - 1)) d)
    (hs : ∀ d, s (ix2 (0 : Fin 1) d) = Spec.average (Spec.mat (argQ m c)) (Spec.mat (argK m c)) (Spec.tokens (argX m c) (seq t.val)) (tok t.val) d) :
    TileValue.Holds (Spec.mat (argQ m c)) (Spec.mat (argK m c)) (Spec.mat (argR m c)) (Spec.vec (argB m c)) (Spec.tokens (argX m c) (seq t.val))
      (tok t.val) (firstBit (grid0.coords t)) (iblk m c 0 t) (iblk m c 1 t) (iblk m c 2 t) q s where
  first := firstBit_eq t
  tokens := tile_apply m c t
  queries := queries m c t
  keys := keys m c t
  project := project m c t
  bias := bias_blk m c t
  before := hq
  start := hs

end Cert.KernelIdeal.Entry

end
-- ==== Proof.TileRunFirst.lean ====
/- One call of the kernel's body at a first tile, its writes named. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Tile
public import Idealize.ShloMosaic.Lib.VecWindow

@[expose] public section

set_option maxRecDepth 16384

noncomputable section

namespace Cert.KernelIdeal.TileRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Tile

set_option maxHeartbeats 2000000 in
/-- One call of the body at the first tile of a sequence: the scan starts from the zero row, whatever the row buffer held. -/
theorem first_tile_runs (c : Dev nD) (i : grid0.Coords) (arg2 : Memref sig .tc .vmem S1x1024x1024 .f32) (harg2 : arg2.IsWhole) (arg3 : Memref sig .tc .vmem S1024x3072 .f32) (harg3 : arg3.IsWhole) (arg4 : Memref sig .tc .vmem S1x1024 .f32) (harg4 : arg4.IsWhole)
    (arg5 : Memref sig .tc .vmem S1x1024x1024 .f32) (harg5 : arg5.IsWhole) (arg6 : Memref sig .tc .vmem S1x1024 .f32) (harg6 : arg6.IsWhole) (arg7 : Memref sig .tc .vmem S1x1024 .f32) (harg7 : arg7.IsWhole)
    (x0 : Vec F S1x1024x1024 .f32) (x1 : Vec F S1024x3072 .f32) (x2 q : Vec F S1x1024 .f32)
    (G5 : S1x1024x1024.Idx → Elt F .f32)
    (h5 : ∀ (b : Fin 8) (y : S1x128x1024.Idx), piece (firstBit i) x0 x1 x2 q k0_pay16 b y = G5 ((blockRect b).emb y))
    (hc : FirstTile i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare q
        ∗ (iprop(owns (c : Thread nD τ) arg2 fullShare x0 ∗ owns (c : Thread nD τ) arg3 fullShare x1 ∗ owns (c : Thread nD τ) arg4 fullShare x2
            ∗ owns (c : Thread nD τ) arg5 fullShare G5 ∗ owns (c : Thread nD τ) arg6 fullShare (k0_pay2 (lastOf (firstBit i) x0 x1 q k0_pay16)) ∗ owns (c : Thread nD τ) arg7 fullShare (k0_pay7 (tileX x0) (wq x1))) -∗ K ⟨⟩))
      ⊢ wp frame (wpE (defs₀ (F := F)) Variants.none c none) E (cc0__hnet_kernel i arg2 harg2 arg3 harg3 arg4 harg4 arg5 harg5 arg6 harg6 arg7 harg7) K := by
  have hz : arg6.view.readCov (Val := Elt F) [⟨Rect.unit (s := S1x1024) ![0, 0] S1x1024.size inb_S1x1024_S1x1024_0_0, k0_pay16 (F := F)⟩]
      (Rect.unit (s := S1x1024) ![0, 0] S1x1024.size inb_S1x1024_S1x1024_0_0).toLoadRect = k0_pay16 := View.readCov_full _ _ _ _ _
  simp only [cc0__hnet_kernel_eq_skeleton]; unfold cc0__hnet_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%d6, %fs0, -, HS0⟩, ⟨%fs1, %hs1, HS1⟩, Hk⟩
  subst hf0 hf1 hf2 hs1
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    funext y
    refine View.read_writes_apply_of_pieces _ _ G5 _ ?_ y ?_
    swap; · exact View.cover_of_tiledL (s := S1x1024x1024) _ S1x128x1024.size (by sl_kernel_rfl) y
    simp only [List.forall_mem_cons]
    exact ⟨h5 7, h5 6, h5 5, h5 4, h5 3, h5 2, h5 1, h5 0, fun _ h => absurd h List.not_mem_nil⟩
  isplitl [HS0]
  · iexists _; isplitr; swap; · iexact HS0
    ipureintro
    exact View.read_writes_full _ _ _ _ _
  iexists _; isplitr; swap; · iexact HS1
  ipureintro
  exact View.read_writes_full _ _ _ _ _

end Cert.KernelIdeal.TileRun

end
-- ==== Proof.TileRunLater.lean ====
/- One call of the kernel's body at a later tile, its writes named. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Tile
public import Idealize.ShloMosaic.Lib.VecWindow

@[expose] public section

set_option maxRecDepth 16384

noncomputable section

namespace Cert.KernelIdeal.TileRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Tile

set_option maxHeartbeats 2000000 in
/-- One call of the body at a later tile of a sequence, with every buffer but the output at known contents. -/
theorem later_tile_runs (c : Dev nD) (i : grid0.Coords) (arg2 : Memref sig .tc .vmem S1x1024x1024 .f32) (harg2 : arg2.IsWhole) (arg3 : Memref sig .tc .vmem S1024x3072 .f32) (harg3 : arg3.IsWhole) (arg4 : Memref sig .tc .vmem S1x1024 .f32) (harg4 : arg4.IsWhole)
    (arg5 : Memref sig .tc .vmem S1x1024x1024 .f32) (harg5 : arg5.IsWhole) (arg6 : Memref sig .tc .vmem S1x1024 .f32) (harg6 : arg6.IsWhole) (arg7 : Memref sig .tc .vmem S1x1024 .f32) (harg7 : arg7.IsWhole)
    (x0 : Vec F S1x1024x1024 .f32) (x1 : Vec F S1024x3072 .f32) (x2 q s : Vec F S1x1024 .f32)
    (G5 : S1x1024x1024.Idx → Elt F .f32)
    (h5 : ∀ (b : Fin 8) (y : S1x128x1024.Idx), piece (firstBit i) x0 x1 x2 q (row s) b y = G5 ((blockRect b).emb y))
    (hc : ¬FirstTile i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s ∗ owns (c : Thread nD τ) arg7 fullShare q
        ∗ (iprop(owns (c : Thread nD τ) arg2 fullShare x0 ∗ owns (c : Thread nD τ) arg3 fullShare x1 ∗ owns (c : Thread nD τ) arg4 fullShare x2
            ∗ owns (c : Thread nD τ) arg5 fullShare G5 ∗ owns (c : Thread nD τ) arg6 fullShare (k0_pay2 (lastOf (firstBit i) x0 x1 q (row s))) ∗ owns (c : Thread nD τ) arg7 fullShare (k0_pay7 (tileX x0) (wq x1))) -∗ K ⟨⟩))
      ⊢ wp frame (wpE (defs₀ (F := F)) Variants.none c none) E (cc0__hnet_kernel i arg2 harg2 arg3 harg3 arg4 harg4 arg5 harg5 arg6 harg6 arg7 harg7) K := by
  simp only [cc0__hnet_kernel_eq_skeleton]; unfold cc0__hnet_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
  subst hf0 hf1 hf2 hs1 hs0
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    funext y
    refine View.read_writes_apply_of_pieces _ _ G5 _ ?_ y ?_
    swap; · exact View.cover_of_tiledL (s := S1x1024x1024) _ S1x128x1024.size (by sl_kernel_rfl) y
    simp only [List.forall_mem_cons]
    exact ⟨h5 7, h5 6, h5 5, h5 4, h5 3, h5 2, h5 1, h5 0, fun _ h => absurd h List.not_mem_nil⟩
  isplitl [HS0]
  · iexists _; isplitr; swap; · iexact HS0
    ipureintro
    exact View.read_writes_full _ _ _ _ _
  iexists _; isplitr; swap; · iexact HS1
  ipureintro
  exact View.read_writes_full _ _ _ _ _

end Cert.KernelIdeal.TileRun

end
-- ==== Proof.KernelRun.lean ====
/- The kernel's whole run at the extended reals: the launch over the sixteen grid points, two for each sequence. Between the
   two, the scratch rows hold the average and the query that the first tile ends with; so the output array ends as the
   specification says. -/
module

public import proofs.«01_k».proof.Proof.Entry
public import proofs.«01_k».proof.Proof.TileRunFirst
public import proofs.«01_k».proof.Proof.TileRunLater
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Tile Cert.KernelIdeal.Entry Cert.KernelIdeal.TileRun

local notation "𝕄" => MT nD τ sig Unit (Elt Ideal) ℕ (UR sig nD τ) ℕ

variable (m : (ℓ : Loc nD τ sig) → Buf (Elt Ideal) ℓ) (ρ : Dev nD → PrngReg) (c : Dev nD)

/-! ## What the buffers hold -/

/-- The rows carried from the first tile of a sequence to its second. -/
def avgRow (b : Fin 8) : Vec Ideal S1x1024 .f32 := fun i =>
  Spec.average (Spec.mat (argQ m c)) (Spec.mat (argK m c)) (Spec.tokens (argX m c) b) 1024 (i 1)
def queryRow (b : Fin 8) : Vec Ideal S1x1024 .f32 := fun i =>
  Spec.proj (Spec.mat (argQ m c)) (Spec.tokens (argX m c) b 1023) (i 1)
/-- The tile of the result that a grid point computes. -/
def outTile (t : ℕ) : Vec Ideal S1x1024x1024 .f32 := fun y =>
  Spec.out (Spec.mat (argQ m c)) (Spec.mat (argK m c)) (Spec.mat (argR m c)) (Spec.vec (argB m c)) (Spec.tokens (argX m c) (seq t))
    (tok t + (y 1).val) (y 2)

/-- Two rows that agree at every column are equal. -/
theorem row_ext {v w : Vec Ideal S1x1024 .f32} (h : ∀ d : Fin 1024, v (ix2 (0 : Fin 1) d) = w (ix2 (0 : Fin 1) d)) : v = w := by
  funext i
  have e : i = ix2 (0 : Fin 1) (i 1) := funext fun a => match a with
    | ⟨0, _⟩ => Fin.ext (Nat.lt_one_iff.mp (show (i 0).val < 1 from (i 0).isLt))
    | ⟨1, _⟩ => rfl
  rw [e]; exact h _

theorem row_zero : row (F := Ideal) (k0_pay16 (F := Ideal)) = k0_pay16 (F := Ideal) := row_ext fun d => TileValue.row_apply _ d
theorem row_self (r : Vec Ideal S1x1024 .f32) : row (F := Ideal) r = r := row_ext fun d => TileValue.row_apply r d
theorem pay2_self (v : FVec Ideal S1x1024 .f32) : k0_pay2 (F := Ideal) v = v := row_ext fun d => by pointwise [k0_pay2]

section
variable {m c} {t : Fin cfg0.N} {q s : Vec Ideal S1x1024 .f32}
  (h : TileValue.Holds (Spec.mat (argQ m c)) (Spec.mat (argK m c)) (Spec.mat (argR m c)) (Spec.vec (argB m c)) (Spec.tokens (argX m c) (seq t.val))
      (tok t.val) (firstBit (grid0.coords t)) (iblk m c 0 t) (iblk m c 1 t) (iblk m c 2 t) q s)
include h

/-- Each block of rows that a grid point writes is that block of the result's tile. -/
theorem pieces (b : Fin 8) (y : S1x128x1024.Idx) :
    Tile.piece (firstBit (grid0.coords t)) (iblk m c 0 t : Vec Ideal S1x1024x1024 .f32) (iblk m c 1 t : Vec Ideal S1024x3072 .f32) (iblk m c 2 t : Vec Ideal S1x1024 .f32) q (row s) b y
      = outTile m c t.val ((blockRect b).emb y) := by
  have e : y = ix3 (0 : Fin 1) (y 1) (y 2) := funext fun a => match a with
    | ⟨0, _⟩ => Fin.ext (Nat.lt_one_iff.mp (show (y 0).val < 1 from (y 0).isLt))
    | ⟨1, _⟩ => rfl
    | ⟨2, _⟩ => rfl
  refine (congrArg _ e).trans ((h.piece_apply b (y 1) (y 2)).trans ?_)
  have e1 : (((blockRect b).emb y) 1).val = 128 * b.val + (y 1).val := by simp [blockRect]
  have e2 : ((blockRect b).emb y) 2 = y 2 := Fin.ext (by simp [blockRect])
  rw [outTile, e1, e2]

end

/-! ## The launch -/

/-- What the scratch rows hold before point `k`: the carried rows between the two tiles of a sequence, and otherwise
    anything. -/
def between (k : ℕ) : sProp 𝕄 :=
  if k % 2 = 1 then
    iprop(iprop(owns (c : Thread nD τ) (Memref.whole cc0_scratch0) fullShare (avgRow m c (seq k)) ∗ owns (c : Thread nD τ) (Memref.whole cc0_scratch1) fullShare (queryRow m c (seq k)))
      ∗ (∃ r, prngReg c r))
  else Pipeline.ΦA spec0 c

/-- What holds between grid points: the inputs' buffers keep their blocks, the output's holds the result's tile, and the
    scratch rows are as `between` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile m c t.val
  Φ k := between m c k.val
  q _ := fullShare
  owed _ := 0

theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = outTile m c t.val := by dsimp only [dats]
theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d

/-- With nothing said of them, the scratch rows hold anything. -/
theorem anything : (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem between_even {k : ℕ} (h : k % 2 = 0) : between m c k
      = iprop(iprop((∃ d, owns (c : Thread nD τ) (Memref.whole cc0_scratch0) fullShare d) ∗ (∃ d, owns (c : Thread nD τ) (Memref.whole cc0_scratch1) fullShare d)) ∗ (∃ r, prngReg c r)) := by
  rw [between, if_neg (by omega), anything]
theorem between_odd {k : ℕ} (h : k % 2 = 1) : between m c k
      = iprop(iprop(owns (c : Thread nD τ) (Memref.whole cc0_scratch0) fullShare (avgRow m c (seq k)) ∗ owns (c : Thread nD τ) (Memref.whole cc0_scratch1) fullShare (queryRow m c (seq k)))
      ∗ (∃ r, prngReg c r)) := by
  rw [between, if_pos h]

/-- What the body is called with at a grid point. -/
def bodyPre (t : Fin cfg0.N) : sProp 𝕄 :=
  iprop(between m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back. -/
def bodyPost (t : Fin cfg0.N) : sProp 𝕄 :=
  iprop(between m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The first tile of a sequence: the average starts at zero, whatever the scratch rows hold. -/
theorem first_holds (t : Fin cfg0.N) (ht : t.val % 2 = 0) (q : Vec Ideal S1x1024 .f32) :
    TileValue.Holds (Spec.mat (argQ m c)) (Spec.mat (argK m c)) (Spec.mat (argR m c)) (Spec.vec (argB m c)) (Spec.tokens (argX m c) (seq t.val))
      (tok t.val) (firstBit (grid0.coords t)) (iblk m c 0 t) (iblk m c 1 t) (iblk m c 2 t) q (k0_pay16 (F := Ideal)) := by
  have h0 : tok t.val = 0 := by rw [tok, ht]
  refine holds m c t q _ (fun h => absurd h0 h) fun d => ?_
  rw [h0, TileValue.pay16_apply]; rfl

/-- The second tile goes on from the carried rows. -/
theorem later_holds (t : Fin cfg0.N) (ht : t.val % 2 = 1) :
    TileValue.Holds (Spec.mat (argQ m c)) (Spec.mat (argK m c)) (Spec.mat (argR m c)) (Spec.vec (argB m c)) (Spec.tokens (argX m c) (seq t.val))
      (tok t.val) (firstBit (grid0.coords t)) (iblk m c 0 t) (iblk m c 1 t) (iblk m c 2 t) (queryRow m c (seq t.val)) (avgRow m c (seq t.val)) := by
  have h1 : tok t.val = 1024 := by rw [tok, ht]
  exact holds m c t _ _ (fun _ d => by rw [h1]; rfl) fun d => by rw [h1]; rfl

theorem body_first (t : Fin cfg0.N) (ht : t.val % 2 = 0) :
    bodyPre m c t ⊢ wp frame (wpE (defs₀ (F := Ideal)) Variants.none c none) Set.univ (bodyAt0 t) (fun _ => bodyPost m c t) := by
  have h0 : tok t.val = 0 := by rw [tok, ht]
  have hs : seq (t.val + 1) = seq t.val := by simp only [seq]; congr 1; omega
  unfold bodyPre bodyPost bodyAt0
  simp only [before_0, before_1, before_2]
  rw [show (dats m 0 c).owesAt () t.succ = (dats m 0 c).owesAt () t.castSucc from rfl, after_0, after_1, after_2, after_3,
    between_even m c ht, between_odd m c (show (t.val + 1) % 2 = 1 by omega), hs]
  iintro ⟨⟨⟨HS0, ⟨%q, HS1⟩⟩, Hg⟩, Ho, ⟨%d0, H0⟩, ⟨%d1, H1⟩, ⟨%d2, H2⟩, ⟨%d3, H3⟩⟩
  have hh := first_holds m c t ht q
  have ea : k0_pay2 (lastOf (firstBit (grid0.coords t)) (iblk m c 0 t : Vec Ideal S1x1024x1024 .f32) (iblk m c 1 t : Vec Ideal S1024x3072 .f32) q (k0_pay16 (F := Ideal))) = avgRow m c (seq t.val) := by
    rw [pay2_self, ← row_zero]
    exact row_ext fun d => (hh.lastOf_apply d).trans (by rw [h0]; rfl)
  have eq : k0_pay7 (tileX (iblk m c 0 t : Vec Ideal S1x1024x1024 .f32)) (wq (iblk m c 1 t : Vec Ideal S1024x3072 .f32)) = queryRow m c (seq t.val) :=
    row_ext fun d => (hh.query_apply d).trans (by rw [h0]; rfl)
  iapply (first_tile_runs c (grid0.coords t) _ _ _ _ _ _ _ _ _ _ _ _ (iblk m c 0 t) (iblk m c 1 t) (iblk m c 2 t) q (outTile m c t.val)
    (fun b y => by rw [← row_zero]; exact pieces hh b y) ((firstTile_iff t).mpr ht) Set.univ _)
  rw [ea, eq]
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem body_later (t : Fin cfg0.N) (ht : t.val % 2 = 1) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3,
    between_odd m c ht, between_even m c (show (t.val + 1) % 2 = 0 by omega)]
  iintro ⟨⟨⟨HS0, HS1⟩, Hg⟩, Ho, ⟨%d0, H0⟩, ⟨%d1, H1⟩, ⟨%d2, H2⟩, ⟨%d3, H3⟩⟩
  have hh := later_holds m c t ht
  iapply (later_tile_runs c (grid0.coords t) _ _ _ _ _ _ _ _ _ _ _ _ (iblk m c 0 t) (iblk m c 1 t) (iblk m c 2 t) (queryRow m c (seq t.val)) (avgRow m c (seq t.val))
    (outTile m c t.val) (fun b y => pieces hh b y) (fun h => by have := (firstTile_iff t).mp h; omega) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  iexact H3

theorem sound_body (t : Fin cfg0.N) :
    bodyPre m c t ⊢ wp frame (wpE (defs₀ (F := Ideal)) Variants.none c none) Set.univ (bodyAt0 t) (fun _ => bodyPost m c t) := by
  by_cases ht : t.val % 2 = 0
  · exact body_first m c t ht
  · exact body_later m c t (by omega)

/-- The body table's row at a point is the body as called there. -/
theorem defs_row (t : Fin cfg0.N) : defs₀ (F := Ideal) .tc cfg0.body (cfg0.bodyArgs t (cfg0.slots t)) = bodyAt0 t := by
  unfold defs₀; rw [Defs.onTc_tc]

/-- The library's obligation for the body, at every point. -/
theorem body_obligation : BodyObligation (dats m 0 c) (defs₀ (F := Ideal)) Variants.none () Set.univ := fun t => by
  rw [bigSep_W0, bigSep_W0, defs_row]
  exact triple_restated (sound_body m c t) rfl .rfl fun _ => .rfl

-- the launch theorem's implicit arguments are found by unifying its conclusion, which unfolds plain definitions in types
set_option backward.isDefEq.respectTransparency.types false in
/-- The whole run, as the library states it. -/
theorem run_arrays : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-! ## The output array -/

theorem out_0 : ∀ t : Fin cfg0.N, win0_3.index t 0 * win0_3.size 0 = (seq t.val).val :=
  (by decide +kernel : ∀ t : Fin grid0.N, win0_3.index t 0 * win0_3.size 0 = (seq t.val).val)
theorem out_1 : ∀ t : Fin cfg0.N, win0_3.index t 1 * win0_3.size 1 = tok t.val :=
  (by decide +kernel : ∀ t : Fin grid0.N, win0_3.index t 1 * win0_3.size 1 = tok t.val)
theorem out_2 : ∀ t : Fin cfg0.N, win0_3.index t 2 * win0_3.size 2 = 0 :=
  (by decide +kernel : ∀ t : Fin grid0.N, win0_3.index t 2 * win0_3.size 2 = 0)
theorem size_0 : ∀ t : Fin cfg0.N, win0_3.xsize (grid0.coords t) 0 = 1 :=
  (by decide +kernel : ∀ t : Fin grid0.N, win0_3.xsize (grid0.coords t) 0 = 1)
theorem size_1 : ∀ t : Fin cfg0.N, win0_3.xsize (grid0.coords t) 1 = 1024 :=
  (by decide +kernel : ∀ t : Fin grid0.N, win0_3.xsize (grid0.coords t) 1 = 1024)
theorem size_2 : ∀ t : Fin cfg0.N, win0_3.xsize (grid0.coords t) 2 = 1024 :=
  (by decide +kernel : ∀ t : Fin grid0.N, win0_3.xsize (grid0.coords t) 2 = 1024)

/-- What the kernel is shown to compute. -/
abbrev result : FVec Ideal ⟨3, ![8, 2048, 1024]⟩ .f32 := Spec.result (argX m c) (argQ m c) (argK m c) (argR m c) (argB m c)

/-- What a point writes back is its tile of the result. -/
theorem flushed_eq (t : Fin cfg0.N) : (dats m 0 c).flushed 3 t = (win0_3.blk t).view.read (Elt Ideal) (result m c : Buf (Elt Ideal) ((c : Thread nD τ).loc main_v0)) := by
  show (cfg0.win 3).cut (grid0.coords t) ((dats m 0 c).after 3 t) = _
  rw [after_3]
  funext y
  show outTile m c t.val y = result m c (fun a => ⟨win0_3.index t a * win0_3.size a + 1 * (y a).val, _⟩)
  have e0 : (⟨win0_3.index t 0 * win0_3.size 0 + 1 * (y 0).val, ((win0_3.rect t).emb y 0).isLt⟩ : Fin 8) = seq t.val := Fin.ext (by
    have : (y 0).val < win0_3.xsize (grid0.coords t) 0 := (y 0).isLt
    rw [size_0] at this
    dsimp only; rw [out_0]; omega)
  have e1 : win0_3.index t 1 * win0_3.size 1 + 1 * (y 1).val = tok t.val + (y 1).val := by rw [out_1]; omega
  have e2 : (⟨win0_3.index t 2 * win0_3.size 2 + 1 * (y 2).val, ((win0_3.rect t).emb y 2).isLt⟩ : Fin 1024) = y 2 := Fin.ext (by
    dsimp only; rw [out_2]; omega)
  have key : ∀ {b b' : Fin 8} {n n' : ℕ} {d d' : Fin 1024}, b = b' → n = n' → d = d' →
      Spec.out (Spec.mat (argQ m c)) (Spec.mat (argK m c)) (Spec.mat (argR m c)) (Spec.vec (argB m c)) (Spec.tokens (argX m c) b) n d
        = Spec.out (Spec.mat (argQ m c)) (Spec.mat (argK m c)) (Spec.mat (argR m c)) (Spec.vec (argB m c)) (Spec.tokens (argX m c) b') n' d' := by
    rintro _ _ _ _ _ _ rfl rfl rfl; rfl
  exact (key e0 e1 e2).symm

/-- An index of the result is in a point's tile when its sequence and its token are. -/
theorem mem_blk (t : Fin cfg0.N) (i : S8x2048x1024.Idx) :
    i ∈ ((cfg0.win 3).blk t).view.set ↔ (i 0).val = (seq t.val).val ∧ tok t.val ≤ (i 1).val ∧ (i 1).val < tok t.val + 1024 := by
  show i ∈ ((View.whole main_v0).slice (win0_3.rect t)).set ↔ _
  rw [View.set_slice_whole, Rect.mem_set_unit]
  have h2 : (i 2).val < 1024 := (i 2).isLt
  refine ⟨fun h => ?_, fun h a => ?_⟩
  · have a0 : win0_3.index t 0 * win0_3.size 0 ≤ (i 0).val ∧ (i 0).val < win0_3.index t 0 * win0_3.size 0 + win0_3.xsize (grid0.coords t) 0 := h 0
    have a1 : win0_3.index t 1 * win0_3.size 1 ≤ (i 1).val ∧ (i 1).val < win0_3.index t 1 * win0_3.size 1 + win0_3.xsize (grid0.coords t) 1 := h 1
    rw [out_0, size_0] at a0; rw [out_1, size_1] at a1
    exact ⟨by omega, a1⟩
  · match a with
    | ⟨0, _⟩ => show win0_3.index t 0 * win0_3.size 0 ≤ (i 0).val ∧ (i 0).val < win0_3.index t 0 * win0_3.size 0 + win0_3.xsize (grid0.coords t) 0
                rw [out_0, size_0]; omega
    | ⟨1, _⟩ => show win0_3.index t 1 * win0_3.size 1 ≤ (i 1).val ∧ (i 1).val < win0_3.index t 1 * win0_3.size 1 + win0_3.xsize (grid0.coords t) 1
                rw [out_1, size_1]; exact h.2
    | ⟨2, _⟩ => show win0_3.index t 2 * win0_3.size 2 ≤ (i 2).val ∧ (i 2).val < win0_3.index t 2 * win0_3.size 2 + win0_3.xsize (grid0.coords t) 2
                rw [out_2, size_2]; omega

/-- The tiles cover the result. -/
theorem cover (i : S8x2048x1024.Idx) : ∃ t : Fin cfg0.N, (cfg0.win 3).flush t = true ∧ i ∈ ((cfg0.win 3).blk t).view.set := by
  have h0 : (i 0).val < 8 := (i 0).isLt
  have h1 : (i 1).val < 2048 := (i 1).isLt
  have hN : cfg0.N = 16 := N_0
  refine ⟨⟨2 * (i 0).val + (i 1).val / 1024, by omega⟩, flush0_3 _, ?_⟩
  rw [mem_blk]
  simp only [seq, tok, Fin.ofNat]
  omega

theorem final (c : Dev nD) : (dats m 0 c).arrAt 3 cfg0.N = (result m c : Buf (Elt Ideal) ((c : Thread nD τ).loc main_v0)) :=
  (dats m 0 c).arrAt_eq_of_cover 3 (result m c) (fun t _ => flushed_eq m c t) cover

/-- Every run of the kernel ends with the result as the specification says, the arguments unchanged, and the semaphore
    counters at zero. -/
theorem run : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).1 3).trans (final m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_arrays m ρ)

end Cert.KernelIdeal.KernelRun

end
-- ==== Proof.RefIter.lean ====
/- The reference's run, as a recurrence: each trip of its loop takes the carried state to the next one, so the loop's
   end is the 2048th state of any sequence of states that starts where the program starts and goes on by one trip. -/
module

public import proofs.«01_k».proof.Proof.Gen.ReferenceIdeal.Run
public import proofs.«01_k».proof.Proof.Gen.ReferenceIdeal.Step

@[expose] public section

noncomputable section

namespace Cert.RefIter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
variable {V0 : Valuation τ sig (Elt F)} {s : State F} {j : ℕ}

/-- The loop's buffers hold the state `s` before trip `j`. -/
structure Holds (V0 : Valuation τ sig (Elt F)) (s : State F) (j : ℕ) : Prop where
  scan : V0 (Proc.devRef .tc main_v32_3) = s.main_v32_3
  rows : V0 (Proc.devRef .tc main_v32_4) = s.main_v32_4
  input : V0 (Proc.devRef .tc main_v32_0) = s.main_v32_0
  gates : V0 (Proc.devRef .tc main_v32_1) = s.main_v32_1
  count : V0 (Proc.devRef .tc main_v32_2) = constantI S_ 32 (BitVec.ofNat 32 j)

/-- The trip's gates, one for each sequence. -/
theorem gates_eq (h : Holds V0 s j) : res_main_while0b_v40 V0 = Step.b6 j s := by
  unfold res_main_while0b_v40; rw [h.gates, h.count]; rfl
/-- The trip's new row of the scan. -/
theorem row_eq (h : Holds V0 s j) : res_main_while0b_v49 V0 = Step.b16 j s := by
  unfold res_main_while0b_v49; rw [gates_eq h, h.input, h.count, h.scan]; rfl

theorem scan_step (h : Holds V0 s j) : step_main_v32_3 V0 = (step j s).main_v32_3 := row_eq h
theorem rows_step (h : Holds V0 s j) : step_main_v32_4 V0 = (step j s).main_v32_4 := by
  unfold step_main_v32_4; rw [row_eq h, h.rows, h.count]; rfl
theorem count_step (h : Holds V0 s j) : step_main_v32_2 V0 = constantI S_ 32 (BitVec.ofNat 32 (j + 1)) := by
  unfold step_main_v32_2; rw [h.count]
  exact funext fun _ => (BitVec.ofNat_add j 1).symm

/-- One trip takes the state to the next. -/
theorem Holds.next (h : Holds V0 s j) : Holds (STEP V0) (step j s) (j + 1) :=
  ⟨(STEP_main_v32_3 V0).trans (scan_step h), (STEP_main_v32_4 V0).trans (rows_step h), (STEP_main_v32_0 V0).trans h.input,
    (STEP_main_v32_1 V0).trans h.gates, (STEP_main_v32_2 V0).trans (count_step h)⟩

variable (m : (ℓ : Loc nD τ sig) → Buf (Elt F) ℓ) (ρ : Dev nD → PrngReg) (c : Dev nD)

/-- The state before the first trip. -/
abbrev start : State F :=
  init (m ((c.tc : Thread nD τ).loc main_arg0)) (m ((c.tc : Thread nD τ).loc main_arg1)) (m ((c.tc : Thread nD τ).loc main_arg2))

set_option maxRecDepth 65536 in
set_option maxHeartbeats 400000 in
theorem start_holds : Holds (entryContents preI m c) (start m c) 0 := by
  constructor <;> (simp only [entryContents, afterL_cons, afterL_nil]; after_reads_simp) <;> rfl

/-- The states, one after each trip. -/
def states : ℕ → State F
  | 0 => start m c
  | k + 1 => step k (states k)

theorem states_hold (k : ℕ) : Holds (STEP^[k] (entryContents preI m c)) (states m c k) k := by
  induction k with
  | zero => exact start_holds m c
  | succ k ih => rw [Function.iterate_succ_apply']; exact ih.next

/-- The result, from the loop's last state. -/
theorem result_eq (h : Holds V0 s j) {x0 : (⟨S8x2048x1024, .f32⟩ : BufTy).Contents (Elt F)} (h0 : V0 (Proc.devRef .tc main_arg0) = x0)
    {x3 : (⟨S1024x1024, .f32⟩ : BufTy).Contents (Elt F)} (h3 : V0 (Proc.devRef .tc main_arg3) = x3)
    {x4 : (⟨S1024, .f32⟩ : BufTy).Contents (Elt F)} (h4 : V0 (Proc.devRef .tc main_arg4) = x4) :
    out_main_v38 V0 = Step.R_main_v38 s x0 x3 x4 := by
  unfold out_main_v38; rw [h.rows, h0, h3, h4]; rfl

/-- Every run of the reference ends with the result made from the 2048th state, and the arguments unchanged. -/
theorem run : θ_run (defs (F := F)) (onTc (τ := τ) (main (F := F))) ⟨m, fun _ => 0, ρ⟩ fun r => ∀ c : Dev nD,
      r.2.mem ((c.tc : Thread nD τ).loc main_v38)
        = Step.R_main_v38 (states m c 2048) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq (states_hold m c 2048) (iter_main_arg0 m c 2048) (iter_main_arg3 m c 2048) (iter_main_arg4 m c 2048)),
    (h c).2⟩) (Value.run m ρ)

end Cert.RefIter

end
-- ==== Proof.RefValue.lean ====
/- The reference's arithmetic read at an index, and so its result: its gates are the specification's, its loop makes the
   specification's averages one row a trip, and what it adds to them is the projection. -/
module

public import proofs.«01_k».proof.Proof.RefIter
public import proofs.«01_k».proof.Proof.Spec
public import Idealize.ShloMosaic.Lib.WordCmp
public import Idealize.ShloMosaic.Lib.Pointwise
public import Idealize.ShloMosaic.Lib.DynamicIndex

@[expose] public section

set_option maxRecDepth 16384

noncomputable section

namespace Cert.RefValue

open Idealize.ShloMosaic
open Cert.ReferenceIdeal Cert.ReferenceIdeal.Gen Cert.ReferenceIdeal.Step

variable (x : FVec Ideal ⟨3, ![8, 2048, 1024]⟩ .f32) (wq wk wr : FVec Ideal ⟨2, ![1024, 1024]⟩ .f32) (bias : FVec Ideal ⟨1, ![1024]⟩ .f32)

/-! The gates. -/

theorem query_apply (b : Fin 8) (t : Fin 2047) (n : Fin 1024) :
    A_main_v1 (F := Ideal) x wq wk (ix3 b t n) = Spec.proj (Spec.mat wq) (Spec.tokens x b t.val) n := by
  have ht : t.val < 2048 := by omega
  pointwise [A_main_v1, A_main_v0, Spec.proj, Spec.mat, Spec.tokens]
  simp only [dif_pos ht]
theorem key_apply (b : Fin 8) (t : Fin 2047) (n : Fin 1024) :
    A_main_v3 (F := Ideal) x wq wk (ix3 b t n) = Spec.proj (Spec.mat wk) (Spec.tokens x b (t.val + 1)) n := by
  have ht : t.val + 1 < 2048 := by omega
  pointwise [A_main_v3, A_main_v2, Spec.proj, Spec.mat, Spec.tokens]
  simp only [dif_pos ht, Nat.add_comm 1 t.val]

theorem score_apply (b : Fin 8) (t : Fin 2047) :
    A_main_v22 (F := Ideal) x wq wk (ix2 b t)
      = Spec.score (Spec.cosine (Spec.proj (Spec.mat wq) (Spec.tokens x b t.val)) (Spec.proj (Spec.mat wk) (Spec.tokens x b (t.val + 1)))) := by
  pointwise [A_main_v22, A_main_call0_v2, A_main_v21, A_main_v19, A_main_v17, A_main_v16, A_main_v15, A_main_v14, A_main_v13, A_main_v11, A_main_v9,
    A_main_v8, A_main_v7, A_main_v6, A_main_v5, A_main_v4, K_main_cst, K_main_cst_0, K_main_cst_1, K_main_v10, K_main_cst_2, K_main_v12, K_main_cst_3,
    K_main_cst_4, K_main_v18, K_main_cst_5, K_main_v20, K_main_cst_6, K_main_cst_7, K_main_call0_v0, K_main_call0_v1, K_main_call0_v3, K_main_call0_v4, id]
  simp only [query_apply, key_apply]
  rw [Spec.two_eq, Ideal.div_coe two_ne_zero, mul_comm, ← Spec.half_eq]
  rfl

theorem gate_apply (b : Fin 8) (t : Fin 2048) :
    A_main_v27 (F := Ideal) x wq wk (ix2 b t) = Spec.gate (Spec.mat wq) (Spec.mat wk) (Spec.tokens x b) t.val := by
  pointwise [A_main_v27, A_main_v26, A_main_call2_v2, A_main_v25, A_main_v23, K_main_cst_8, K_main_call1_v0, K_main_cst_9, K_main_v24, K_main_cst_10,
    K_main_cst_11, K_main_call2_v0, K_main_call2_v1, K_main_call2_v3, K_main_call2_v4, K_main_cst_12, K_main_call3_v0, K_main_call3_v1, id]
  rw [Spec.gate, Spec.squash]
  by_cases h : t.val = 0
  · rw [if_pos h, dif_neg (by omega)]
  · rw [if_neg h, dif_pos (by omega), score_apply]
    simp only [Nat.sub_add_cancel (Nat.one_le_iff_ne_zero.mpr h)]

/-! One trip of the loop. -/

/-- A slice at the trip's number is the row of that number. -/
theorem fits3 {j : ℕ} (hj : j < 2048) : S2048x8x1024.Slices ![j, 0, 0] S1x8x1024 := ⟨rfl, fun a => by
  match a with
  | ⟨0, _⟩ => show j + 1 ≤ 2048; omega
  | ⟨1, _⟩ => show 0 + 8 ≤ 8; omega
  | ⟨2, _⟩ => show 0 + 1024 ≤ 1024; omega⟩
theorem fits2 {j : ℕ} (hj : j < 2048) : S2048x8.Slices ![j, 0] S1x8 := ⟨rfl, fun a => by
  match a with
  | ⟨0, _⟩ => show j + 1 ≤ 2048; omega
  | ⟨1, _⟩ => show 0 + 8 ≤ 8; omega⟩

theorem token_apply (j : ℕ) (hj : j < 2048) (s : State Ideal) (b : Fin 8) (d : Fin 1024) :
    b2 (F := Ideal) j s (ix3 (0 : Fin 1) b d) = s.main_v32_0 (ix3 (⟨j, hj⟩ : Fin 2048) b d) := by
  unfold b2
  rw [Host.dynamicSlice_eq_extractStridedSlice _ _ _ ![j, 0, 0] _ (fits3 hj) (fun a => by
    match a with
    | ⟨0, _⟩ => exact toInt_ofNat_of_lt (by omega)
    | ⟨1, _⟩ => rfl
    | ⟨2, _⟩ => rfl)]
  pointwise
theorem trip_gate_apply (j : ℕ) (hj : j < 2048) (s : State Ideal) (b : Fin 8) :
    b5 (F := Ideal) j s (ix2 (0 : Fin 1) b) = s.main_v32_1 (ix2 (⟨j, hj⟩ : Fin 2048) b) := by
  unfold b5
  rw [Host.dynamicSlice_eq_extractStridedSlice _ _ _ ![j, 0] _ (fits2 hj) (fun a => by
    match a with
    | ⟨0, _⟩ => exact toInt_ofNat_of_lt (by omega)
    | ⟨1, _⟩ => rfl)]
  pointwise

theorem scan_apply (j : ℕ) (hj : j < 2048) (s : State Ideal) (b : Fin 8) (d : Fin 1024) :
    b16 (F := Ideal) j s (ix2 b d)
      = s.main_v32_1 (ix2 (⟨j, hj⟩ : Fin 2048) b) * s.main_v32_0 (ix3 (⟨j, hj⟩ : Fin 2048) b d)
        + (1 - s.main_v32_1 (ix2 (⟨j, hj⟩ : Fin 2048) b)) * s.main_v32_3 (ix2 b d) := by
  rw [← trip_gate_apply j hj s b, ← token_apply j hj s b d]
  pointwise [b16, b15, b14, b13, b12, b11, b10, b9, b8, b7, b6, b3]

theorem rows_apply (j : ℕ) (hj : j < 2048) (s : State Ideal) (t : Fin 2048) (b : Fin 8) (d : Fin 1024) :
    b20 (F := Ideal) j s (ix3 t b d) = if t.val = j then b16 (F := Ideal) j s (ix2 b d) else s.main_v32_4 (ix3 t b d) := by
  unfold b20
  rw [WordCmp.dynamicUpdateSlice_eq_update _ _ _ _ ![j, 0, 0] (fits3 hj) (fun a => by
    match a with
    | ⟨0, _⟩ => exact toInt_ofNat_of_lt (by omega)
    | ⟨1, _⟩ => rfl
    | ⟨2, _⟩ => rfl)]
  pointwise [b17]
  by_cases h : t.val = j
  · rw [if_pos h, dif_pos (by omega)]
  · rw [if_neg h, dif_neg (by omega)]

theorem result_apply (s : State Ideal) (b : Fin 8) (t : Fin 2048) (d : Fin 1024) :
    R_main_v38 (F := Ideal) s x wr bias (ix3 b t d)
      = (Spec.proj (Spec.mat wr) (Spec.tokens x b t.val) d + Spec.vec bias d) + s.main_v32_4 (ix3 t b d) := by
  have ht := t.isLt
  pointwise [R_main_v38, Spec.proj, Spec.mat, Spec.tokens, Spec.vec]

/-! The loop. -/

open Idealize.ShloMosaic.TcCoe

section
variable (m : (ℓ : Loc nD τ sig) → Buf (Elt Ideal) ℓ) (c : Dev nD)

/-! The arguments, as one core holds them. -/
abbrev argX : FVec Ideal ⟨3, ![8, 2048, 1024]⟩ .f32 := m ((c.tc : Thread nD τ).loc main_arg0)
abbrev argQ : FVec Ideal ⟨2, ![1024, 1024]⟩ .f32 := m ((c.tc : Thread nD τ).loc main_arg1)
abbrev argK : FVec Ideal ⟨2, ![1024, 1024]⟩ .f32 := m ((c.tc : Thread nD τ).loc main_arg2)
abbrev argR : FVec Ideal ⟨2, ![1024, 1024]⟩ .f32 := m ((c.tc : Thread nD τ).loc main_arg3)
abbrev argB : FVec Ideal ⟨1, ![1024]⟩ .f32 := m ((c.tc : Thread nD τ).loc main_arg4)

/-- The gate of a token, and the average after some, as the specification has them. -/
abbrev gateOf (b : Fin 8) (t : ℕ) : EReal := Spec.gate (Spec.mat (argQ m c)) (Spec.mat (argK m c)) (Spec.tokens (argX m c) b) t
abbrev averageOf (b : Fin 8) (n : ℕ) (d : Fin 1024) : EReal := Spec.average (Spec.mat (argQ m c)) (Spec.mat (argK m c)) (Spec.tokens (argX m c) b) n d

/-- What the loop's buffers hold after `n` trips. -/
structure After (n : ℕ) (s : State Ideal) : Prop where
  scan : ∀ b d, s.main_v32_3 (ix2 (b : Fin 8) (d : Fin 1024)) = averageOf m c b n d
  rows : ∀ (t : Fin 2048) b d, t.val < n → s.main_v32_4 (ix3 t (b : Fin 8) (d : Fin 1024)) = averageOf m c b (t.val + 1) d
  input : ∀ (t : Fin 2048) b d, s.main_v32_0 (ix3 t (b : Fin 8) (d : Fin 1024)) = Spec.tokens (argX m c) b t.val d
  gates : ∀ (t : Fin 2048) b, s.main_v32_1 (ix2 t (b : Fin 8)) = gateOf m c b t.val

theorem after_none : After m c 0 (RefIter.start m c) where
  scan b d := by
    show K_main_v28 (F := Ideal) (ix2 b d) = 0
    pointwise [K_main_v28, K_main_cst_13]
  rows t b d h := absurd h (Nat.not_lt_zero _)
  input t b d := by
    have ht := t.isLt
    show A_main_v29 (F := Ideal) (argX m c) (argQ m c) (argK m c) (ix3 t b d) = _
    rw [Spec.tokens, dif_pos ht]
    pointwise [A_main_v29]
  gates t b := by
    show A_main_v30 (F := Ideal) (argX m c) (argQ m c) (argK m c) (ix2 t b) = _
    refine Eq.trans ?_ (gate_apply (argX m c) (argQ m c) (argK m c) b t)
    pointwise [A_main_v30]

theorem After.next {n : ℕ} {s : State Ideal} (hn : n < 2048) (h : After m c n s) : After m c (n + 1) (step n s) := by
  have hscan : ∀ b d, b16 (F := Ideal) n s (ix2 b d) = averageOf m c b (n + 1) d := fun b d => by
    rw [scan_apply n hn s b d, h.gates, h.input, h.scan]; rfl
  refine ⟨hscan, fun t b d ht => ?_, h.input, h.gates⟩
  show b20 (F := Ideal) n s (ix3 t b d) = _
  rw [rows_apply n hn s t b d]
  split
  · next e => rw [hscan, e]
  · exact h.rows t b d (by omega)

theorem after_trips : ∀ n ≤ 2048, After m c n (RefIter.states m c n)
  | 0, _ => after_none m c
  | n + 1, hn => (after_trips n (by omega)).next m c (by omega)

/-- The reference's result is the specification's. -/
theorem result_eq : R_main_v38 (F := Ideal) (RefIter.states m c 2048) (argX m c) (argR m c) (argB m c)
    = Spec.result (argX m c) (argQ m c) (argK m c) (argR m c) (argB m c) := by
  funext i
  have e : i = ix3 (i 0) (i 1) (i 2) := funext fun a => match a with
    | ⟨0, _⟩ => rfl
    | ⟨1, _⟩ => rfl
    | ⟨2, _⟩ => rfl
  refine (congrArg _ e).trans ((result_apply (argX m c) (argR m c) (argB m c) (RefIter.states m c 2048) (i 0) (i 1) (i 2)).trans ?_)
  rw [(after_trips m c 2048 le_rfl).rows (i 1) (i 0) (i 2) (i 1).isLt]
  rfl

end

end Cert.RefValue

end
-- ==== Proof.lean ====
/- The proof of every claim: the three frames, that the ideal program is the kernel's own text, and that the kernel
   computes the reference's result over the extended reals. -/
module

public import proofs.«01_k».proof.Proof.Gen.ReferenceIdeal.Run
public import proofs.«01_k».proof.Proof.Gen.ReferenceIdeal.Step
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsFrame
public import proofs.«01_k».proof.Proof.KernelRun
public import proofs.«01_k».proof.Proof.RefValue
public import Idealize.ShloMosaic.Lib.Quiescent

public import Idealize.ShloMosaic.Adequacy
public import Idealize.ShloMosaic.Init

@[expose] public section

noncomputable section

namespace Cert.Proof

open Idealize.ShloMosaic Idealize.SL.Sem

/-- The kernel as it is compiled: it ends, the arguments unchanged and the counters at zero. -/
theorem frame_bits : Cert.quiescent_Kernel := fun m g _ => Cert.Kernel.BitsFrame.frame (F := Bits) m g

/-- The same of the kernel over the extended reals. -/
theorem frame_kernel : Cert.quiescent_KernelIdeal := fun m g _ =>
  (θ_run _ _ _).mono (fun _ h => ⟨fun c => (h.1 c).2, h.2⟩) (Cert.KernelIdeal.KernelRun.run m g)

/-- The same of the reference. -/
theorem frame_reference : Cert.quiescent_ReferenceIdeal := fun m g _ =>
  (θ_run _ _ _).mono (fun r h => ⟨fun c => (h c).2, Idealize.ShloMosaic.sem_eq_zero_of_no_sems (by decide) r.2⟩) (Cert.RefIter.run (F := Ideal) m g)

/-- From equal arguments, the two programs end with one result: the specification's. -/
theorem same_result : Cert.algebraic_KernelIdeal_ReferenceIdeal := by
  intro m g m' g' _ hagree
  refine ⟨fun c => Cert.KernelIdeal.KernelRun.result m c,
    (θ_run _ _ _).mono (fun _ h => h.1) (Cert.KernelIdeal.KernelRun.run m g),
    (θ_run _ _ _).mono (fun _ h c => ⟨(h c).1.trans ?_, (h c).2⟩) (Cert.RefIter.run (F := Ideal) m' g')⟩
  obtain ⟨h0, h1, h2, h3, h4⟩ := hagree c
  refine (Cert.RefValue.result_eq m' c).trans ?_
  have e0 : Cert.RefValue.argX m' c = Cert.KernelIdeal.Entry.argX m c := h0
  have e1 : Cert.RefValue.argQ m' c = Cert.KernelIdeal.Entry.argQ m c := h1
  have e2 : Cert.RefValue.argK m' c = Cert.KernelIdeal.Entry.argK m c := h2
  have e3 : Cert.RefValue.argR m' c = Cert.KernelIdeal.Entry.argR m c := h3
  have e4 : Cert.RefValue.argB m' c = Cert.KernelIdeal.Entry.argB m c := h4
  rw [e0, e1, e2, e3, e4]

theorem claim : Cert.Claim := ⟨Cert.Kernel.Gen.facts, Cert.KernelIdeal.Gen.facts, Cert.ReferenceIdeal.Gen.facts,
  frame_bits, frame_kernel, frame_reference, trivial, same_result⟩

end Cert.Proof

end
